-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v194) = v0 c
          ∧ r.2.mem ((c.tc : Thread Cert.ReferenceIdeal.nD Cert.ReferenceIdeal.τ).loc Cert.ReferenceIdeal.main_v198) = v1 c
          ∧ r.2.mem ((c.tc : Thread Cert.ReferenceIdeal.nD Cert.ReferenceIdeal.τ).loc Cert.ReferenceIdeal.main_v82_0) = v2 c
          ∧ r.2.mem ((c.tc : Thread Cert.ReferenceIdeal.nD Cert.ReferenceIdeal.τ).loc Cert.ReferenceIdeal.main_v82_1) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S2x512x18432 : Shape := ⟨3, ![2, 512, 18432]⟩
abbrev S2x512x640 : Shape := ⟨3, ![2, 512, 640]⟩
abbrev S2x18432x640 : Shape := ⟨3, ![2, 18432, 640]⟩
abbrev S_ : Shape := ⟨0, ![]⟩

class Facts : Prop where
  bitsLt_bf16_f32 : FTy.bits .bf16 < FTy.bits .f32
  bcast_S_S2x512x18432 : S_.BroadcastsInDim S2x512x18432 (![] : Fin 0 → Fin S2x512x18432.rank)
  reducesTo_S2x512x18432_S_d0_1_2 : S2x512x18432.ReducesTo [0, 1, 2] S_
  h_S_ : 0 < S_.numel
  bcast_S_S2x512x640 : S_.BroadcastsInDim S2x512x640 (![] : Fin 0 → Fin S2x512x640.rank)
  reducesTo_S2x512x640_S_d0_1_2 : S2x512x640.ReducesTo [0, 1, 2] S_
  bcast_S_S2x18432x640 : S_.BroadcastsInDim S2x18432x640 (![] : Fin 0 → Fin S2x18432x640.rank)
  reducesTo_S2x18432x640_S_d0_1_2 : S2x18432x640.ReducesTo [0, 1, 2] S_

variable [Facts]

def fn {F : FTy → Type} [FloatOps F] (main_arg0 : FVec F S2x512x18432 .bf16) (main_arg1 : FVec F S2x512x640 .f32) (main_arg2 : FVec F S2x18432x640 .f32) : IVec S_ 1 :=
  let main_v0 : FVec F S2x512x18432 .f32 := (extf .f32 · bitsLt_bf16_f32) main_arg0
  let main_v1 : FVec F S2x512x18432 .f32 := Host.absf main_v0
  let main_cst : FVec F S_ .f32 := constant S_ .f32 0x7F800000#32
  let main_v2 : FVec F S2x512x18432 .f32 := broadcastInDim S2x512x18432 ![] bcast_S_S2x512x18432 main_cst
  let main_v3 : IVec S2x512x18432 1 := cmpf .olt main_v1 main_v2
  let main_c : IVec S_ 1 := constantI S_ 1 1#1
  let main_v4 : IVec S_ 1 := (fun x v => Host.reduce IntOp.andi x v reducesTo_S2x512x18432_S_d0_1_2 h_S_) main_v3 main_c
  let main_v5 : FVec F S2x512x640 .f32 := Host.absf main_arg1
  let main_cst_0 : FVec F S_ .f32 := constant S_ .f32 0x7F800000#32
  let main_v6 : FVec F S2x512x640 .f32 := broadcastInDim S2x512x640 ![] bcast_S_S2x512x640 main_cst_0
  let main_v7 : IVec S2x512x640 1 := cmpf .olt main_v5 main_v6
  let main_c_1 : IVec S_ 1 := constantI S_ 1 1#1
  let main_v8 : IVec S_ 1 := (fun x v => Host.reduce IntOp.andi x v reducesTo_S2x512x640_S_d0_1_2 h_S_) main_v7 main_c_1
  let main_v9 : FVec F S2x18432x640 .f32 := Host.absf main_arg2
  let main_cst_2 : FVec F S_ .f32 := constant S_ .f32 0x7F800000#32
  let main_v10 : FVec F S2x18432x640 .f32 := broadcastInDim S2x18432x640 ![] bcast_S_S2x18432x640 main_cst_2
  let main_v11 : IVec S2x18432x640 1 := cmpf .olt main_v9 main_v10
  let main_c_3 : IVec S_ 1 := constantI S_ 1 1#1
  let main_v12 : IVec S_ 1 := (fun x v => Host.reduce IntOp.andi x v reducesTo_S2x18432x640_S_d0_1_2 h_S_) main_v11 main_c_3
  let main_v13 : IVec S_ 1 := andi main_v4 main_v8
  let main_v14 : IVec S_ 1 := andi main_v13 main_v12
  main_v14
-- ==== Kernel.lean ====
abbrev S2x512x18432 : Shape := ⟨3, ![2, 512, 18432]⟩
abbrev S2x512x640 : Shape := ⟨3, ![2, 512, 640]⟩
abbrev S2x18432x640 : Shape := ⟨3, ![2, 18432, 640]⟩
abbrev S2x512x1 : Shape := ⟨3, ![2, 512, 1]⟩
abbrev S2x256x18432 : Shape := ⟨3, ![2, 256, 18432]⟩
abbrev S2x8x18432 : Shape := ⟨3, ![2, 8, 18432]⟩
abbrev S1x512x512 : Shape := ⟨3, ![1, 512, 512]⟩
abbrev S1x512x640 : Shape := ⟨3, ![1, 512, 640]⟩
abbrev S1x512x1 : Shape := ⟨3, ![1, 512, 1]⟩
abbrev S1x256x512 : Shape := ⟨3, ![1, 256, 512]⟩
abbrev S1x8x512 : Shape := ⟨3, ![1, 8, 512]⟩
abbrev S512x1920 : Shape := ⟨2, ![512, 1920]⟩
abbrev S1920x512 : Shape := ⟨2, ![1920, 512]⟩
abbrev S512x512 : Shape := ⟨2, ![512, 512]⟩
abbrev S1536x512 : Shape := ⟨2, ![1536, 512]⟩
abbrev S640x512 : Shape := ⟨2, ![640, 512]⟩
abbrev S640x640 : Shape := ⟨2, ![640, 640]⟩
abbrev S512x128 : Shape := ⟨2, ![512, 128]⟩
abbrev S512x640 : Shape := ⟨2, ![512, 640]⟩
abbrev S64x128 : Shape := ⟨2, ![64, 128]⟩
abbrev S128 : Shape := ⟨1, ![128]⟩
abbrev S1x128 : Shape := ⟨2, ![1, 128]⟩
abbrev S16x128 : Shape := ⟨2, ![16, 128]⟩
abbrev S8x128 : Shape := ⟨2, ![8, 128]⟩
abbrev S32x128 : Shape := ⟨2, ![32, 128]⟩
abbrev S1x32x128 : Shape := ⟨3, ![1, 32, 128]⟩
abbrev S1x1x128 : Shape := ⟨3, ![1, 1, 128]⟩
abbrev S1x64x128 : Shape := ⟨3, ![1, 64, 128]⟩
abbrev S512 : Shape := ⟨1, ![512]⟩
abbrev S512x1 : Shape := ⟨2, ![512, 1]⟩

abbrev nBuf : Space → Nat
  | .hbm => 7
  | .vmem => 21
  | .smem => 0
  | _ => 0

abbrev bufTy : (tb : Table) → Fin (tcTables nBuf tb) → BufTy
  | .hbm, ⟨0, _⟩ => ⟨S2x512x18432, .bf16⟩
  | .hbm, ⟨1, _⟩ => ⟨S2x512x640, .f32⟩
  | .hbm, ⟨2, _⟩ => ⟨S2x18432x640, .f32⟩
  | .hbm, ⟨3, _⟩ => ⟨S2x512x640, .f32⟩
  | .hbm, ⟨4, _⟩ => ⟨S2x512x1, .f32⟩
  | .hbm, ⟨5, _⟩ => ⟨S2x256x18432, .i8⟩
  | .hbm, ⟨6, _⟩ => ⟨S2x8x18432, .f32⟩
  | .local _ .vmem, ⟨0, _⟩ => ⟨S1x512x512, .bf16⟩
  | .local _ .vmem, ⟨1, _⟩ => ⟨S1x512x512, .bf16⟩
  | .local _ .vmem, ⟨2, _⟩ => ⟨S1x512x640, .f32⟩
  | .local _ .vmem, ⟨3, _⟩ => ⟨S1x512x640, .f32⟩
  | .local _ .vmem, ⟨4, _⟩ => ⟨S1x512x640, .f32⟩
  | .local _ .vmem, ⟨5, _⟩ => ⟨S1x512x640, .f32⟩
  | .local _ .vmem, ⟨6, _⟩ => ⟨S1x512x640, .f32⟩
  | .local _ .vmem, ⟨7, _⟩ => ⟨S1x512x640, .f32⟩
  | .local _ .vmem, ⟨8, _⟩ => ⟨S1x512x1, .f32⟩
  | .local _ .vmem, ⟨9, _⟩ => ⟨S1x512x1, .f32⟩
  | .local _ .vmem, ⟨10, _⟩ => ⟨S1x256x512, .i8⟩
  | .local _ .vmem, ⟨11, _⟩ => ⟨S1x256x512, .i8⟩
  | .local _ .vmem, ⟨12, _⟩ => ⟨S1x8x512, .f32⟩
  | .local _ .vmem, ⟨13, _⟩ => ⟨S1x8x512, .f32⟩
  | .local _ .vmem, ⟨14, _⟩ => ⟨S512x1920, .bf16⟩
  | .local _ .vmem, ⟨15, _⟩ => ⟨S1920x512, .bf16⟩
  | .local _ .vmem, ⟨16, _⟩ => ⟨S512x512, .f32⟩
  | .local _ .vmem, ⟨17, _⟩ => ⟨S1536x512, .bf16⟩
  | .local _ .vmem, ⟨18, _⟩ => ⟨S640x512, .f32⟩
  | .local _ .vmem, ⟨19, _⟩ => ⟨S640x640, .f32⟩
  | .local _ .vmem, ⟨20, _⟩ => ⟨S512x128, .f32⟩
  | _, _ => ⟨S2x512x18432, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_scratch5 : Ref sig .tc := ⟨.vmem, 19, rfl⟩
abbrev cc0_scratch6 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 36], ![false, false]⟩

def k0_cond2 (i : grid0.Coords) : BitVec 1 :=
  let arg1 : BitVec 32 := BitVec.ofNat 32 (i 1).val
  let c35_i32 : BitVec 32 := 35#32
  let v4399 : BitVec 1 := Scalar.cmpi .eq arg1 c35_i32
  let v4400 : BitVec 32 := Scalar.extui v4399
  let c0_i32_2160 : BitVec 32 := 0#32
  let v4401 : BitVec 1 := Scalar.cmpi .ne v4400 c0_i32_2160
  v4401

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x640 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x640 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x256x512 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x8x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S2x512x18432 : Shape := ⟨3, ![2, 512, 18432]⟩
abbrev S2x512x640 : Shape := ⟨3, ![2, 512, 640]⟩
abbrev S2x18432x640 : Shape := ⟨3, ![2, 18432, 640]⟩
abbrev S2x8x64x18432 : Shape := ⟨4, ![2, 8, 64, 18432]⟩
abbrev S_ : Shape := ⟨0, ![]⟩
abbrev S2x8x18432 : Shape := ⟨3, ![2, 8, 18432]⟩
abbrev S2x8x1x18432 : Shape := ⟨4, ![2, 8, 1, 18432]⟩
abbrev S2x256x2x18432 : Shape := ⟨4, ![2, 256, 2, 18432]⟩
abbrev S2x256x1x18432 : Shape := ⟨4, ![2, 256, 1, 18432]⟩
abbrev S2x256x18432 : Shape := ⟨3, ![2, 256, 18432]⟩
abbrev S2x8x32x18432 : Shape := ⟨4, ![2, 8, 32, 18432]⟩
abbrev S2x256x640 : Shape := ⟨3, ![2, 256, 640]⟩
abbrev S2x256 : Shape := ⟨2, ![2, 256]⟩
abbrev S2x256x1x640 : Shape := ⟨4, ![2, 256, 1, 640]⟩
abbrev S2x256x2x640 : Shape := ⟨4, ![2, 256, 2, 640]⟩
abbrev S2x256x1 : Shape := ⟨3, ![2, 256, 1]⟩
abbrev S2x256x2 : Shape := ⟨3, ![2, 256, 2]⟩
abbrev S2x512x1 : Shape := ⟨3, ![2, 512, 1]⟩

abbrev nBuf : Space → Nat
  | .hbm => 316
  | .vmem => 0
  | .smem => 0
  | _ => 0

abbrev hbmTy0_0 (i : Nat) : BufTy := match i % 128 with
  | 0 => ⟨S2x512x18432, .bf16⟩
  | 1 => ⟨S2x512x640, .f32⟩
  | 2 => ⟨S2x18432x640, .f32⟩
  | 3 => ⟨S2x512x18432, .f32⟩
  | 4 => ⟨S2x512x18432, .f32⟩
  | 5 => ⟨S2x512x18432, .f32⟩
  | 6 => ⟨S2x8x64x18432, .f32⟩
  | 7 => ⟨S2x8x64x18432, .f32⟩
  | 8 => ⟨S_, .f32⟩
  | 9 => ⟨S2x8x18432, .f32⟩
  | 10 => ⟨S_, .f32⟩
  | 11 => ⟨S2x8x18432, .f32⟩
  | 12 => ⟨S2x8x18432, .i1⟩
  | 13 => ⟨S_, .f32⟩
  | 14 => ⟨S2x8x18432, .f32⟩
  | 15 => ⟨S2x8x18432, .f32⟩
  | 16 => ⟨S2x8x1x18432, .f32⟩
  | 17 => ⟨S2x8x64x18432, .f32⟩
  | 18 => ⟨S2x8x64x18432, .f32⟩
  | 19 => ⟨S_, .i32⟩
  | 20 => ⟨S2x8x64x18432, .i32⟩
  | 21 => ⟨S_, .f32⟩
  | 22 => ⟨S2x8x64x18432, .f32⟩
  | 23 => ⟨S2x8x64x18432, .i1⟩
  | 24 => ⟨S2x8x64x18432, .i32⟩
  | 25 => ⟨S2x8x64x18432, .i32⟩
  | 26 => ⟨S_, .f32⟩
  | 27 => ⟨S2x8x64x18432, .f32⟩
  | 28 => ⟨S2x8x64x18432, .i1⟩
  | 29 => ⟨S2x8x64x18432, .i32⟩
  | 30 => ⟨S2x8x64x18432, .i32⟩
  | 31 => ⟨S_, .f32⟩
  | 32 => ⟨S2x8x64x18432, .f32⟩
  | 33 => ⟨S2x8x64x18432, .i1⟩
  | 34 => ⟨S2x8x64x18432, .i32⟩
  | 35 => ⟨S2x8x64x18432, .i32⟩
  | 36 => ⟨S_, .f32⟩
  | 37 => ⟨S2x8x64x18432, .f32⟩
  | 38 => ⟨S2x8x64x18432, .i1⟩
  | 39 => ⟨S2x8x64x18432, .i32⟩
  | 40 => ⟨S2x8x64x18432, .i32⟩
  | 41 => ⟨S_, .f32⟩
  | 42 => ⟨S2x8x64x18432, .f32⟩
  | 43 => ⟨S2x8x64x18432, .i1⟩
  | 44 => ⟨S2x8x64x18432, .i32⟩
  | 45 => ⟨S2x8x64x18432, .i32⟩
  | 46 => ⟨S_, .f32⟩
  | 47 => ⟨S2x8x64x18432, .f32⟩
  | 48 => ⟨S2x8x64x18432, .i1⟩
  | 49 => ⟨S2x8x64x18432, .i32⟩
  | 50 => ⟨S2x8x64x18432, .i32⟩
  | 51 => ⟨S_, .f32⟩
  | 52 => ⟨S2x8x64x18432, .f32⟩
  | 53 => ⟨S2x8x64x18432, .i1⟩
  | 54 => ⟨S2x8x64x18432, .i32⟩
  | 55 => ⟨S2x8x64x18432, .i32⟩
  | 56 => ⟨S_, .f32⟩
  | 57 => ⟨S2x8x64x18432, .f32⟩
  | 58 => ⟨S2x8x64x18432, .i1⟩
  | 59 => ⟨S2x8x64x18432, .i32⟩
  | 60 => ⟨S2x8x64x18432, .i32⟩
  | 61 => ⟨S_, .f32⟩
  | 62 => ⟨S2x8x64x18432, .f32⟩
  | 63 => ⟨S2x8x64x18432, .i1⟩
  | 64 => ⟨S2x8x64x18432, .i32⟩
  | 65 => ⟨S2x8x64x18432, .i32⟩
  | 66 => ⟨S_, .f32⟩
  | 67 => ⟨S2x8x64x18432, .f32⟩
  | 68 => ⟨S2x8x64x18432, .i1⟩
  | 69 => ⟨S2x8x64x18432, .i32⟩
  | 70 => ⟨S2x8x64x18432, .i32⟩
  | 71 => ⟨S_, .f32⟩
  | 72 => ⟨S2x8x64x18432, .f32⟩
  | 73 => ⟨S2x8x64x18432, .i1⟩
  | 74 => ⟨S2x8x64x18432, .i32⟩
  | 75 => ⟨S2x8x64x18432, .i32⟩
  | 76 => ⟨S_, .f32⟩
  | 77 => ⟨S2x8x64x18432, .f32⟩
  | 78 => ⟨S2x8x64x18432, .i1⟩
  | 79 => ⟨S2x8x64x18432, .i32⟩
  | 80 => ⟨S2x8x64x18432, .i32⟩
  | 81 => ⟨S_, .f32⟩
  | 82 => ⟨S2x8x64x18432, .f32⟩
  | 83 => ⟨S2x8x64x18432, .i1⟩
  | 84 => ⟨S2x8x64x18432, .i32⟩
  | 85 => ⟨S2x8x64x18432, .i32⟩
  | 86 => ⟨S_, .f32⟩
  | 87 => ⟨S2x8x64x18432, .f32⟩
  | 88 => ⟨S2x8x64x18432, .i1⟩
  | 89 => ⟨S2x8x64x18432, .i32⟩
  | 90 => ⟨S2x8x64x18432, .i32⟩
  | 91 => ⟨S_, .f32⟩
  | 92 => ⟨S2x8x64x18432, .f32⟩
  | 93 => ⟨S2x8x64x18432, .i1⟩
  | 94 => ⟨S2x8x64x18432, .i32⟩
  | 95 => ⟨S2x8x64x18432, .i32⟩
  | 96 => ⟨S2x256x2x18432, .i32⟩
  | 97 => ⟨S2x256x1x18432, .i32⟩
  | 98 => ⟨S2x256x18432, .i32⟩
  | 99 => ⟨S2x256x1x18432, .i32⟩
  | 100 => ⟨S2x256x18432, .i32⟩
  | 101 => ⟨S_, .i32⟩
  | 102 => ⟨S2x256x18432, .i32⟩
  | 103 => ⟨S2x256x18432, .i32⟩
  | 104 => ⟨S2x256x18432, .i32⟩
  | 105 => ⟨S2x256x18432, .i8⟩
  | 106 => ⟨S2x256x18432, .i8⟩
  | 107 => ⟨S2x8x18432, .f32⟩
  | 108 => ⟨S2x256x18432, .i32⟩
  | 109 => ⟨S_, .i32⟩
  | 110 => ⟨S2x256x18432, .i32⟩
  | 111 => ⟨S2x256x18432, .i32⟩
  | 112 => ⟨S2x256x18432, .i32⟩
  | 113 => ⟨S_, .i32⟩
  | 114 => ⟨S2x256x18432, .i32⟩
  | 115 => ⟨S2x256x18432, .i32⟩
  | 116 => ⟨S2x256x18432, .f32⟩
  | 117 => ⟨S_, .i32⟩
  | 118 => ⟨S2x256x18432, .i32⟩
  | 119 => ⟨S2x256x18432, .i32⟩
  | 120 => ⟨S_, .i32⟩
  | 121 => ⟨S2x256x18432, .i32⟩
  | 122 => ⟨S2x256x18432, .i32⟩
  | 123 => ⟨S_, .i32⟩
  | 124 => ⟨S2x256x18432, .i32⟩
  | 125 => ⟨S2x256x18432, .i1⟩
  | 126 => ⟨S_, .i32⟩
  | 127 => ⟨S2x256x18432, .i32⟩
  | _ => ⟨S2x512x18432, .bf16⟩

abbrev hbmTy0_1 (i : Nat) : BufTy := match i % 128 with
  | 0 => ⟨S2x256x18432, .i32⟩
  | 1 => ⟨S_, .i32⟩
  | 2 => ⟨S2x256x18432, .i32⟩
  | 3 => ⟨S2x256x18432, .i32⟩
  | 4 => ⟨S_, .i32⟩
  | 5 => ⟨S2x256x18432, .i32⟩
  | 6 => ⟨S2x256x18432, .i1⟩
  | 7 => ⟨S_, .i32⟩
  | 8 => ⟨S2x256x18432, .i32⟩
  | 9 => ⟨S2x256x18432, .i32⟩
  | 10 => ⟨S_, .i32⟩
  | 11 => ⟨S2x256x18432, .i32⟩
  | 12 => ⟨S2x256x18432, .i32⟩
  | 13 => ⟨S_, .i32⟩
  | 14 => ⟨S2x256x18432, .i32⟩
  | 15 => ⟨S2x256x18432, .i1⟩
  | 16 => ⟨S_, .i32⟩
  | 17 => ⟨S2x256x18432, .i32⟩
  | 18 => ⟨S2x256x18432, .i32⟩
  | 19 => ⟨S_, .i32⟩
  | 20 => ⟨S2x256x18432, .i32⟩
  | 21 => ⟨S2x256x18432, .i32⟩
  | 22 => ⟨S_, .i32⟩
  | 23 => ⟨S2x256x18432, .i32⟩
  | 24 => ⟨S2x256x18432, .i1⟩
  | 25 => ⟨S_, .f32⟩
  | 26 => ⟨S_, .f32⟩
  | 27 => ⟨S2x256x18432, .f32⟩
  | 28 => ⟨S2x256x18432, .f32⟩
  | 29 => ⟨S2x256x18432, .f32⟩
  | 30 => ⟨S_, .f32⟩
  | 31 => ⟨S_, .f32⟩
  | 32 => ⟨S2x256x18432, .f32⟩
  | 33 => ⟨S2x256x18432, .f32⟩
  | 34 => ⟨S2x256x18432, .f32⟩
  | 35 => ⟨S2x256x18432, .f32⟩
  | 36 => ⟨S_, .f32⟩
  | 37 => ⟨S_, .f32⟩
  | 38 => ⟨S2x256x18432, .f32⟩
  | 39 => ⟨S2x256x18432, .f32⟩
  | 40 => ⟨S2x256x18432, .f32⟩
  | 41 => ⟨S_, .f32⟩
  | 42 => ⟨S_, .f32⟩
  | 43 => ⟨S2x256x18432, .f32⟩
  | 44 => ⟨S2x256x18432, .f32⟩
  | 45 => ⟨S2x256x18432, .f32⟩
  | 46 => ⟨S2x256x18432, .f32⟩
  | 47 => ⟨S2x256x18432, .f32⟩
  | 48 => ⟨S_, .f32⟩
  | 49 => ⟨S_, .f32⟩
  | 50 => ⟨S2x256x18432, .f32⟩
  | 51 => ⟨S2x256x18432, .f32⟩
  | 52 => ⟨S2x256x18432, .f32⟩
  | 53 => ⟨S_, .f32⟩
  | 54 => ⟨S_, .f32⟩
  | 55 => ⟨S2x256x18432, .f32⟩
  | 56 => ⟨S2x256x18432, .f32⟩
  | 57 => ⟨S2x256x18432, .f32⟩
  | 58 => ⟨S2x256x18432, .f32⟩
  | 59 => ⟨S_, .f32⟩
  | 60 => ⟨S_, .f32⟩
  | 61 => ⟨S2x256x18432, .f32⟩
  | 62 => ⟨S2x256x18432, .f32⟩
  | 63 => ⟨S2x256x18432, .f32⟩
  | 64 => ⟨S_, .f32⟩
  | 65 => ⟨S_, .f32⟩
  | 66 => ⟨S2x256x18432, .f32⟩
  | 67 => ⟨S2x256x18432, .f32⟩
  | 68 => ⟨S2x256x18432, .f32⟩
  | 69 => ⟨S2x256x18432, .f32⟩
  | 70 => ⟨S2x256x18432, .f32⟩
  | 71 => ⟨S2x256x18432, .f32⟩
  | 72 => ⟨S2x8x32x18432, .f32⟩
  | 73 => ⟨S2x8x1x18432, .f32⟩
  | 74 => ⟨S2x8x32x18432, .f32⟩
  | 75 => ⟨S2x8x32x18432, .f32⟩
  | 76 => ⟨S2x256x18432, .f32⟩
  | 77 => ⟨S2x256x18432, .f32⟩
  | 78 => ⟨S2x256x18432, .f32⟩
  | 79 => ⟨S_, .i32⟩
  | 80 => ⟨S2x256x18432, .i32⟩
  | 81 => ⟨S2x256x18432, .i32⟩
  | 82 => ⟨S_, .i32⟩
  | 83 => ⟨S2x256x18432, .i32⟩
  | 84 => ⟨S2x256x18432, .i32⟩
  | 85 => ⟨S_, .i32⟩
  | 86 => ⟨S2x256x18432, .i32⟩
  | 87 => ⟨S2x256x18432, .i1⟩
  | 88 => ⟨S_, .i32⟩
  | 89 => ⟨S2x256x18432, .i32⟩
  | 90 => ⟨S2x256x18432, .i32⟩
  | 91 => ⟨S_, .i32⟩
  | 92 => ⟨S2x256x18432, .i32⟩
  | 93 => ⟨S2x256x18432, .i32⟩
  | 94 => ⟨S_, .i32⟩
  | 95 => ⟨S2x256x18432, .i32⟩
  | 96 => ⟨S2x256x18432, .i1⟩
  | 97 => ⟨S_, .i32⟩
  | 98 => ⟨S2x256x18432, .i32⟩
  | 99 => ⟨S2x256x18432, .i32⟩
  | 100 => ⟨S_, .i32⟩
  | 101 => ⟨S2x256x18432, .i32⟩
  | 102 => ⟨S2x256x18432, .i32⟩
  | 103 => ⟨S_, .i32⟩
  | 104 => ⟨S2x256x18432, .i32⟩
  | 105 => ⟨S2x256x18432, .i1⟩
  | 106 => ⟨S_, .i32⟩
  | 107 => ⟨S2x256x18432, .i32⟩
  | 108 => ⟨S2x256x18432, .i32⟩
  | 109 => ⟨S_, .i32⟩
  | 110 => ⟨S2x256x18432, .i32⟩
  | 111 => ⟨S2x256x18432, .i32⟩
  | 112 => ⟨S_, .i32⟩
  | 113 => ⟨S2x256x18432, .i32⟩
  | 114 => ⟨S2x256x18432, .i1⟩
  | 115 => ⟨S_, .f32⟩
  | 116 => ⟨S_, .f32⟩
  | 117 => ⟨S2x256x18432, .f32⟩
  | 118 => ⟨S2x256x18432, .f32⟩
  | 119 => ⟨S2x256x18432, .f32⟩
  | 120 => ⟨S_, .f32⟩
  | 121 => ⟨S_, .f32⟩
  | 122 => ⟨S2x256x18432, .f32⟩
  | 123 => ⟨S2x256x18432, .f32⟩
  | 124 => ⟨S2x256x18432, .f32⟩
  | 125 => ⟨S2x256x18432, .f32⟩
  | 126 => ⟨S_, .f32⟩
  | 127 => ⟨S_, .f32⟩
  | _ => ⟨S2x512x18432, .bf16⟩

abbrev hbmTy0_2 (i : Nat) : BufTy := match i % 128 with
  | 0 => ⟨S2x256x18432, .f32⟩
  | 1 => ⟨S2x256x18432, .f32⟩
  | 2 => ⟨S2x256x18432, .f32⟩
  | 3 => ⟨S_, .f32⟩
  | 4 => ⟨S_, .f32⟩
  | 5 => ⟨S2x256x18432, .f32⟩
  | 6 => ⟨S2x256x18432, .f32⟩
  | 7 => ⟨S2x256x18432, .f32⟩
  | 8 => ⟨S2x256x18432, .f32⟩
  | 9 => ⟨S2x256x18432, .f32⟩
  | 10 => ⟨S_, .f32⟩
  | 11 => ⟨S_, .f32⟩
  | 12 => ⟨S2x256x18432, .f32⟩
  | 13 => ⟨S2x256x18432, .f32⟩
  | 14 => ⟨S2x256x18432, .f32⟩
  | 15 => ⟨S_, .f32⟩
  | 16 => ⟨S_, .f32⟩
  | 17 => ⟨S2x256x18432, .f32⟩
  | 18 => ⟨S2x256x18432, .f32⟩
  | 19 => ⟨S2x256x18432, .f32⟩
  | 20 => ⟨S2x256x18432, .f32⟩
  | 21 => ⟨S_, .f32⟩
  | 22 => ⟨S_, .f32⟩
  | 23 => ⟨S2x256x18432, .f32⟩
  | 24 => ⟨S2x256x18432, .f32⟩
  | 25 => ⟨S2x256x18432, .f32⟩
  | 26 => ⟨S_, .f32⟩
  | 27 => ⟨S_, .f32⟩
  | 28 => ⟨S2x256x18432, .f32⟩
  | 29 => ⟨S2x256x18432, .f32⟩
  | 30 => ⟨S2x256x18432, .f32⟩
  | 31 => ⟨S2x256x18432, .f32⟩
  | 32 => ⟨S2x256x18432, .f32⟩
  | 33 => ⟨S2x256x18432, .f32⟩
  | 34 => ⟨S2x8x32x18432, .f32⟩
  | 35 => ⟨S2x8x1x18432, .f32⟩
  | 36 => ⟨S2x8x32x18432, .f32⟩
  | 37 => ⟨S2x8x32x18432, .f32⟩
  | 38 => ⟨S2x256x18432, .f32⟩
  | 39 => ⟨S2x256x18432, .f32⟩
  | 40 => ⟨S2x256x640, .f32⟩
  | 41 => ⟨S2x256x640, .f32⟩
  | 42 => ⟨S2x256x18432, .f32⟩
  | 43 => ⟨S2x256x18432, .f32⟩
  | 44 => ⟨S2x256x18432, .f32⟩
  | 45 => ⟨S2x256x18432, .f32⟩
  | 46 => ⟨S2x256x18432, .f32⟩
  | 47 => ⟨S_, .f32⟩
  | 48 => ⟨S2x256, .f32⟩
  | 49 => ⟨S2x256x18432, .f32⟩
  | 50 => ⟨S_, .f32⟩
  | 51 => ⟨S2x256, .f32⟩
  | 52 => ⟨S2x256x1x640, .f32⟩
  | 53 => ⟨S2x256x1x640, .f32⟩
  | 54 => ⟨S2x256x2x640, .f32⟩
  | 55 => ⟨S2x512x640, .f32⟩
  | 56 => ⟨S2x256x1, .f32⟩
  | 57 => ⟨S2x256x1, .f32⟩
  | 58 => ⟨S2x256x2, .f32⟩
  | 59 => ⟨S2x512x1, .f32⟩
  | _ => ⟨S2x512x18432, .bf16⟩

abbrev hbmTy (i : Nat) : BufTy := match i / 128 with
  | 0 => hbmTy0_0 i
  | 1 => hbmTy0_1 i
  | 2 => hbmTy0_2 i
  | _ => ⟨S2x512x18432, .bf16⟩

abbrev bufTy : (tb : Table) → Fin (tcTables nBuf tb) → BufTy
  | .hbm, ⟨i, _⟩ => hbmTy i
  | _, _ => ⟨S2x512x18432, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_call0_v0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_6 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_8 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_9 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_10 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_11 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_12 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_cst_13 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_cst_14 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_cst_15 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_cst_16 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_c_17 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82_0 : Ref sig .tc := ⟨.hbm, 106, rfl⟩
abbrev main_v82_1 : Ref sig .tc := ⟨.hbm, 107, rfl⟩
abbrev main_v83 : Ref sig .tc := ⟨.hbm, 108, rfl⟩
abbrev main_c_18 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_c_19 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_c_20 : Ref sig .tc := ⟨.hbm, 117, rfl⟩
abbrev main_v90 : Ref sig .tc := ⟨.hbm, 118, rfl⟩
abbrev main_v91 : Ref sig .tc := ⟨.hbm, 119, rfl⟩
abbrev main_c_21 : Ref sig .tc := ⟨.hbm, 120, rfl⟩
abbrev main_v92 : Ref sig .tc := ⟨.hbm, 121, rfl⟩
abbrev main_v93 : Ref sig .tc := ⟨.hbm, 122, rfl⟩
abbrev main_c_22 : Ref sig .tc := ⟨.hbm, 123, rfl⟩
abbrev main_v94 : Ref sig .tc := ⟨.hbm, 124, rfl⟩
abbrev main_v95 : Ref sig .tc := ⟨.hbm, 125, rfl⟩
abbrev main_c_23 : Ref sig .tc := ⟨.hbm, 126, rfl⟩
abbrev main_v96 : Ref sig .tc := ⟨.hbm, 127, rfl⟩
abbrev main_v97 : Ref sig .tc := ⟨.hbm, 128, rfl⟩
abbrev main_c_24 : Ref sig .tc := ⟨.hbm, 129, rfl⟩
abbrev main_v98 : Ref sig .tc := ⟨.hbm, 130, rfl⟩
abbrev main_v99 : Ref sig .tc := ⟨.hbm, 131, rfl⟩
abbrev main_c_25 : Ref sig .tc := ⟨.hbm, 132, rfl⟩
abbrev main_v100 : Ref sig .tc := ⟨.hbm, 133, rfl⟩
abbrev main_v101 : Ref sig .tc := ⟨.hbm, 134, rfl⟩
abbrev main_c_26 : Ref sig .tc := ⟨.hbm, 135, rfl⟩
abbrev main_v102 : Ref sig .tc := ⟨.hbm, 136, rfl⟩
abbrev main_v103 : Ref sig .tc := ⟨.hbm, 137, rfl⟩
abbrev main_c_27 : Ref sig .tc := ⟨.hbm, 138, rfl⟩
abbrev main_v104 : Ref sig .tc := ⟨.hbm, 139, rfl⟩
abbrev main_v105 : Ref sig .tc := ⟨.hbm, 140, rfl⟩
abbrev main_c_28 : Ref sig .tc := ⟨.hbm, 141, rfl⟩
abbrev main_v106 : Ref sig .tc := ⟨.hbm, 142, rfl⟩
abbrev main_v107 : Ref sig .tc := ⟨.hbm, 143, rfl⟩
abbrev main_c_29 : Ref sig .tc := ⟨.hbm, 144, rfl⟩
abbrev main_v108 : Ref sig .tc := ⟨.hbm, 145, rfl⟩
abbrev main_v109 : Ref sig .tc := ⟨.hbm, 146, rfl⟩
abbrev main_c_30 : Ref sig .tc := ⟨.hbm, 147, rfl⟩
abbrev main_v110 : Ref sig .tc := ⟨.hbm, 148, rfl⟩
abbrev main_v111 : Ref sig .tc := ⟨.hbm, 149, rfl⟩
abbrev main_c_31 : Ref sig .tc := ⟨.hbm, 150, rfl⟩
abbrev main_v112 : Ref sig .tc := ⟨.hbm, 151, rfl⟩
abbrev main_v113 : Ref sig .tc := ⟨.hbm, 152, rfl⟩
abbrev main_cst_32 : Ref sig .tc := ⟨.hbm, 153, rfl⟩
abbrev main_cst_33 : Ref sig .tc := ⟨.hbm, 154, rfl⟩
abbrev main_call1_v0 : Ref sig .tc := ⟨.hbm, 155, rfl⟩
abbrev main_call1_v1 : Ref sig .tc := ⟨.hbm, 156, rfl⟩
abbrev main_v114 : Ref sig .tc := ⟨.hbm, 157, rfl⟩
abbrev main_cst_34 : Ref sig .tc := ⟨.hbm, 158, rfl⟩
abbrev main_cst_35 : Ref sig .tc := ⟨.hbm, 159, rfl⟩
abbrev main_call2_v0 : Ref sig .tc := ⟨.hbm, 160, rfl⟩
abbrev main_call2_v1 : Ref sig .tc := ⟨.hbm, 161, rfl⟩
abbrev main_v115 : Ref sig .tc := ⟨.hbm, 162, rfl⟩
abbrev main_v116 : Ref sig .tc := ⟨.hbm, 163, rfl⟩
abbrev main_cst_36 : Ref sig .tc := ⟨.hbm, 164, rfl⟩
abbrev main_cst_37 : Ref sig .tc := ⟨.hbm, 165, rfl⟩
abbrev main_call4_v0 : Ref sig .tc := ⟨.hbm, 166, rfl⟩
abbrev main_call4_v1 : Ref sig .tc := ⟨.hbm, 167, rfl⟩
abbrev main_v117 : Ref sig .tc := ⟨.hbm, 168, rfl⟩
abbrev main_cst_38 : Ref sig .tc := ⟨.hbm, 169, rfl⟩
abbrev main_cst_39 : Ref sig .tc := ⟨.hbm, 170, rfl⟩
abbrev main_call5_v0 : Ref sig .tc := ⟨.hbm, 171, rfl⟩
abbrev main_call5_v1 : Ref sig .tc := ⟨.hbm, 172, rfl⟩
abbrev main_v118 : Ref sig .tc := ⟨.hbm, 173, rfl⟩
abbrev main_v119 : Ref sig .tc := ⟨.hbm, 174, rfl⟩
abbrev main_v120 : Ref sig .tc := ⟨.hbm, 175, rfl⟩
abbrev main_cst_40 : Ref sig .tc := ⟨.hbm, 176, rfl⟩
abbrev main_cst_41 : Ref sig .tc := ⟨.hbm, 177, rfl⟩
abbrev main_call8_v0 : Ref sig .tc := ⟨.hbm, 178, rfl⟩
abbrev main_call8_v1 : Ref sig .tc := ⟨.hbm, 179, rfl⟩
abbrev main_v121 : Ref sig .tc := ⟨.hbm, 180, rfl⟩
abbrev main_cst_42 : Ref sig .tc := ⟨.hbm, 181, rfl⟩
abbrev main_cst_43 : Ref sig .tc := ⟨.hbm, 182, rfl⟩
abbrev main_call9_v0 : Ref sig .tc := ⟨.hbm, 183, rfl⟩
abbrev main_call9_v1 : Ref sig .tc := ⟨.hbm, 184, rfl⟩
abbrev main_v122 : Ref sig .tc := ⟨.hbm, 185, rfl⟩
abbrev main_v123 : Ref sig .tc := ⟨.hbm, 186, rfl⟩
abbrev main_cst_44 : Ref sig .tc := ⟨.hbm, 187, rfl⟩
abbrev main_cst_45 : Ref sig .tc := ⟨.hbm, 188, rfl⟩
abbrev main_call11_v0 : Ref sig .tc := ⟨.hbm, 189, rfl⟩
abbrev main_call11_v1 : Ref sig .tc := ⟨.hbm, 190, rfl⟩
abbrev main_v124 : Ref sig .tc := ⟨.hbm, 191, rfl⟩
abbrev main_cst_46 : Ref sig .tc := ⟨.hbm, 192, rfl⟩
abbrev main_cst_47 : Ref sig .tc := ⟨.hbm, 193, rfl⟩
abbrev main_call12_v0 : Ref sig .tc := ⟨.hbm, 194, rfl⟩
abbrev main_call12_v1 : Ref sig .tc := ⟨.hbm, 195, rfl⟩
abbrev main_v125 : Ref sig .tc := ⟨.hbm, 196, rfl⟩
abbrev main_v126 : Ref sig .tc := ⟨.hbm, 197, rfl⟩
abbrev main_v127 : Ref sig .tc := ⟨.hbm, 198, rfl⟩
abbrev main_v128 : Ref sig .tc := ⟨.hbm, 199, rfl⟩
abbrev main_v129 : Ref sig .tc := ⟨.hbm, 200, rfl⟩
abbrev main_v130 : Ref sig .tc := ⟨.hbm, 201, rfl⟩
abbrev main_v131 : Ref sig .tc := ⟨.hbm, 202, rfl⟩
abbrev main_v132 : Ref sig .tc := ⟨.hbm, 203, rfl⟩
abbrev main_v133 : Ref sig .tc := ⟨.hbm, 204, rfl⟩
abbrev main_v134 : Ref sig .tc := ⟨.hbm, 205, rfl⟩
abbrev main_v135 : Ref sig .tc := ⟨.hbm, 206, rfl⟩
abbrev main_c_48 : Ref sig .tc := ⟨.hbm, 207, rfl⟩
abbrev main_v136 : Ref sig .tc := ⟨.hbm, 208, rfl⟩
abbrev main_v137 : Ref sig .tc := ⟨.hbm, 209, rfl⟩
abbrev main_c_49 : Ref sig .tc := ⟨.hbm, 210, rfl⟩
abbrev main_v138 : Ref sig .tc := ⟨.hbm, 211, rfl⟩
abbrev main_v139 : Ref sig .tc := ⟨.hbm, 212, rfl⟩
abbrev main_c_50 : Ref sig .tc := ⟨.hbm, 213, rfl⟩
abbrev main_v140 : Ref sig .tc := ⟨.hbm, 214, rfl⟩
abbrev main_v141 : Ref sig .tc := ⟨.hbm, 215, rfl⟩
abbrev main_c_51 : Ref sig .tc := ⟨.hbm, 216, rfl⟩
abbrev main_v142 : Ref sig .tc := ⟨.hbm, 217, rfl⟩
abbrev main_v143 : Ref sig .tc := ⟨.hbm, 218, rfl⟩
abbrev main_c_52 : Ref sig .tc := ⟨.hbm, 219, rfl⟩
abbrev main_v144 : Ref sig .tc := ⟨.hbm, 220, rfl⟩
abbrev main_v145 : Ref sig .tc := ⟨.hbm, 221, rfl⟩
abbrev main_c_53 : Ref sig .tc := ⟨.hbm, 222, rfl⟩
abbrev main_v146 : Ref sig .tc := ⟨.hbm, 223, rfl⟩
abbrev main_v147 : Ref sig .tc := ⟨.hbm, 224, rfl⟩
abbrev main_c_54 : Ref sig .tc := ⟨.hbm, 225, rfl⟩
abbrev main_v148 : Ref sig .tc := ⟨.hbm, 226, rfl⟩
abbrev main_v149 : Ref sig .tc := ⟨.hbm, 227, rfl⟩
abbrev main_c_55 : Ref sig .tc := ⟨.hbm, 228, rfl⟩
abbrev main_v150 : Ref sig .tc := ⟨.hbm, 229, rfl⟩
abbrev main_v151 : Ref sig .tc := ⟨.hbm, 230, rfl⟩
abbrev main_c_56 : Ref sig .tc := ⟨.hbm, 231, rfl⟩
abbrev main_v152 : Ref sig .tc := ⟨.hbm, 232, rfl⟩
abbrev main_v153 : Ref sig .tc := ⟨.hbm, 233, rfl⟩
abbrev main_c_57 : Ref sig .tc := ⟨.hbm, 234, rfl⟩
abbrev main_v154 : Ref sig .tc := ⟨.hbm, 235, rfl⟩
abbrev main_v155 : Ref sig .tc := ⟨.hbm, 236, rfl⟩
abbrev main_c_58 : Ref sig .tc := ⟨.hbm, 237, rfl⟩
abbrev main_v156 : Ref sig .tc := ⟨.hbm, 238, rfl⟩
abbrev main_v157 : Ref sig .tc := ⟨.hbm, 239, rfl⟩
abbrev main_c_59 : Ref sig .tc := ⟨.hbm, 240, rfl⟩
abbrev main_v158 : Ref sig .tc := ⟨.hbm, 241, rfl⟩
abbrev main_v159 : Ref sig .tc := ⟨.hbm, 242, rfl⟩
abbrev main_cst_60 : Ref sig .tc := ⟨.hbm, 243, rfl⟩
abbrev main_cst_61 : Ref sig .tc := ⟨.hbm, 244, rfl⟩
abbrev main_call16_v0 : Ref sig .tc := ⟨.hbm, 245, rfl⟩
abbrev main_call16_v1 : Ref sig .tc := ⟨.hbm, 246, rfl⟩
abbrev main_v160 : Ref sig .tc := ⟨.hbm, 247, rfl⟩
abbrev main_cst_62 : Ref sig .tc := ⟨.hbm, 248, rfl⟩
abbrev main_cst_63 : Ref sig .tc := ⟨.hbm, 249, rfl⟩
abbrev main_call17_v0 : Ref sig .tc := ⟨.hbm, 250, rfl⟩
abbrev main_call17_v1 : Ref sig .tc := ⟨.hbm, 251, rfl⟩
abbrev main_v161 : Ref sig .tc := ⟨.hbm, 252, rfl⟩
abbrev main_v162 : Ref sig .tc := ⟨.hbm, 253, rfl⟩
abbrev main_cst_64 : Ref sig .tc := ⟨.hbm, 254, rfl⟩
abbrev main_cst_65 : Ref sig .tc := ⟨.hbm, 255, rfl⟩
abbrev main_call19_v0 : Ref sig .tc := ⟨.hbm, 256, rfl⟩
abbrev main_call19_v1 : Ref sig .tc := ⟨.hbm, 257, rfl⟩
abbrev main_v163 : Ref sig .tc := ⟨.hbm, 258, rfl⟩
abbrev main_cst_66 : Ref sig .tc := ⟨.hbm, 259, rfl⟩
abbrev main_cst_67 : Ref sig .tc := ⟨.hbm, 260, rfl⟩
abbrev main_call20_v0 : Ref sig .tc := ⟨.hbm, 261, rfl⟩
abbrev main_call20_v1 : Ref sig .tc := ⟨.hbm, 262, rfl⟩
abbrev main_v164 : Ref sig .tc := ⟨.hbm, 263, rfl⟩
abbrev main_v165 : Ref sig .tc := ⟨.hbm, 264, rfl⟩
abbrev main_v166 : Ref sig .tc := ⟨.hbm, 265, rfl⟩
abbrev main_cst_68 : Ref sig .tc := ⟨.hbm, 266, rfl⟩
abbrev main_cst_69 : Ref sig .tc := ⟨.hbm, 267, rfl⟩
abbrev main_call23_v0 : Ref sig .tc := ⟨.hbm, 268, rfl⟩
abbrev main_call23_v1 : Ref sig .tc := ⟨.hbm, 269, rfl⟩
abbrev main_v167 : Ref sig .tc := ⟨.hbm, 270, rfl⟩
abbrev main_cst_70 : Ref sig .tc := ⟨.hbm, 271, rfl⟩
abbrev main_cst_71 : Ref sig .tc := ⟨.hbm, 272, rfl⟩
abbrev main_call24_v0 : Ref sig .tc := ⟨.hbm, 273, rfl⟩
abbrev main_call24_v1 : Ref sig .tc := ⟨.hbm, 274, rfl⟩
abbrev main_v168 : Ref sig .tc := ⟨.hbm, 275, rfl⟩
abbrev main_v169 : Ref sig .tc := ⟨.hbm, 276, rfl⟩
abbrev main_cst_72 : Ref sig .tc := ⟨.hbm, 277, rfl⟩
abbrev main_cst_73 : Ref sig .tc := ⟨.hbm, 278, rfl⟩
abbrev main_call26_v0 : Ref sig .tc := ⟨.hbm, 279, rfl⟩
abbrev main_call26_v1 : Ref sig .tc := ⟨.hbm, 280, rfl⟩
abbrev main_v170 : Ref sig .tc := ⟨.hbm, 281, rfl⟩
abbrev main_cst_74 : Ref sig .tc := ⟨.hbm, 282, rfl⟩
abbrev main_cst_75 : Ref sig .tc := ⟨.hbm, 283, rfl⟩
abbrev main_call27_v0 : Ref sig .tc := ⟨.hbm, 284, rfl⟩
abbrev main_call27_v1 : Ref sig .tc := ⟨.hbm, 285, rfl⟩
abbrev main_v171 : Ref sig .tc := ⟨.hbm, 286, rfl⟩
abbrev main_v172 : Ref sig .tc := ⟨.hbm, 287, rfl⟩
abbrev main_v173 : Ref sig .tc := ⟨.hbm, 288, rfl⟩
abbrev main_v174 : Ref sig .tc := ⟨.hbm, 289, rfl⟩
abbrev main_v175 : Ref sig .tc := ⟨.hbm, 290, rfl⟩
abbrev main_v176 : Ref sig .tc := ⟨.hbm, 291, rfl⟩
abbrev main_v177 : Ref sig .tc := ⟨.hbm, 292, rfl⟩
abbrev main_v178 : Ref sig .tc := ⟨.hbm, 293, rfl⟩
abbrev main_v179 : Ref sig .tc := ⟨.hbm, 294, rfl⟩
abbrev main_v180 : Ref sig .tc := ⟨.hbm, 295, rfl⟩
abbrev main_v181 : Ref sig .tc := ⟨.hbm, 296, rfl⟩
abbrev main_v182 : Ref sig .tc := ⟨.hbm, 297, rfl⟩
abbrev main_v183 : Ref sig .tc := ⟨.hbm, 298, rfl⟩
abbrev main_v184 : Ref sig .tc := ⟨.hbm, 299, rfl⟩
abbrev main_v185 : Ref sig .tc := ⟨.hbm, 300, rfl⟩
abbrev main_v186 : Ref sig .tc := ⟨.hbm, 301, rfl⟩
abbrev main_v187 : Ref sig .tc := ⟨.hbm, 302, rfl⟩
abbrev main_cst_76 : Ref sig .tc := ⟨.hbm, 303, rfl⟩
abbrev main_v188 : Ref sig .tc := ⟨.hbm, 304, rfl⟩
abbrev main_v189 : Ref sig .tc := ⟨.hbm, 305, rfl⟩
abbrev main_cst_77 : Ref sig .tc := ⟨.hbm, 306, rfl⟩
abbrev main_v190 : Ref sig .tc := ⟨.hbm, 307, rfl⟩
abbrev main_v191 : Ref sig .tc := ⟨.hbm, 308, rfl⟩
abbrev main_v192 : Ref sig .tc := ⟨.hbm, 309, rfl⟩
abbrev main_v193 : Ref sig .tc := ⟨.hbm, 310, rfl⟩
abbrev main_v194 : Ref sig .tc := ⟨.hbm, 311, rfl⟩
abbrev main_v195 : Ref sig .tc := ⟨.hbm, 312, rfl⟩
abbrev main_v196 : Ref sig .tc := ⟨.hbm, 313, rfl⟩
abbrev main_v197 : Ref sig .tc := ⟨.hbm, 314, rfl⟩
abbrev main_v198 : Ref sig .tc := ⟨.hbm, 315, rfl⟩

abbrev nD : Nat := 1
abbrev τ : Topo := Topo.v7x

variable {F : FTy → Type} [FloatOps F]
-- ==== Proof.Nf4.lean ====
/-
  The four-bit quantiser, one element at a time.

  The kernel finds the code of a scaled element `x` by four comparisons, each against a midpoint chosen by the
  comparisons before it (a binary search of the fifteen midpoints); the reference counts the midpoints below `x`.
  Both are stated here on one element, with the table lookup by the four comparison bits, and proved to agree:
  the midpoints increase, so the comparisons against them are a descending chain of truth values.
-/
module

public import Idealize.ShloMosaic.Lib.Pointwise
public import Idealize.ShloMosaic.Lib.BitcastFour
public import Idealize.ShloMosaic.Lib.TotalOrder

@[expose] public section

set_option maxRecDepth 16384

noncomputable section

namespace Cert.Nf4

open Idealize.ShloMosaic

variable {F : FTy → Type} [FloatOps F]

/-- The f32 value of a bit pattern. -/
abbrev lit (b : BitVec 32) : F .f32 := Scalar.ofBits .f32 b

/-- First comparison: against the middle midpoint. -/
def bit0 (x : F .f32) : BitVec 1 := FloatOps.cmpf .ogt x (lit 0x3D22FAFF#32)

/-- Second comparison: against the middle midpoint of the half the first one chose. -/
def bit1 (x : F .f32) : BitVec 1 :=
  FloatOps.cmpf .ogt x (Scalar.select (bit0 x) (lit 0x3EC753F9#32) (lit 0xBEADEA76#32))

/-- Third comparison, in the quarter the first two chose. -/
def bit2 (x : F .f32) : BitVec 1 :=
  FloatOps.cmpf .ogt x (Scalar.select (bit0 x)
    (Scalar.select (bit1 x) (lit 0x3F248DAF#32) (lit 0x3E5067E0#32))
    (Scalar.select (bit1 x) (lit 0xBE0D38BC#32) (lit 0xBF1C5270#32)))

/-- Fourth comparison, in the eighth the first three chose. -/
def bit3 (x : F .f32) : BitVec 1 :=
  FloatOps.cmpf .ogt x (Scalar.select (bit0 x)
    (Scalar.select (bit1 x) (Scalar.select (bit2 x) (lit 0x3F5C89DA#32) (lit 0x3F006D04#32))
      (Scalar.select (bit2 x) (lit 0x3E9582D4#32) (lit 0x3DF64862#32)))
    (Scalar.select (bit1 x) (Scalar.select (bit2 x) (lit 0xBD3A7871#32) (lit 0xBE703CEC#32))
      (Scalar.select (bit2 x) (lit 0xBEEB8480#32) (lit 0xBF591CD8#32))))

/-- The code the four bits spell, most significant first. -/
def codeOf (a b c d : BitVec 1) : BitVec 32 :=
  IntOp.ori (IntOp.ori (IntOp.ori (Scalar.select a 8#32 0#32) (Scalar.select b 4#32 0#32)) (Scalar.select c 2#32 0#32))
    (Scalar.select d 1#32 0#32)

/-- The code of a scaled element. -/
def code (x : F .f32) : BitVec 32 := codeOf (bit0 x) (bit1 x) (bit2 x) (bit3 x)

/-- The sixteen table values, chosen by the four bits, most significant first. -/
def tableOf (a b c d : BitVec 1) : F .f32 :=
  Scalar.select a
    (Scalar.select b
      (Scalar.select c (Scalar.select d (lit 0x3F800000#32) (lit 0x3F3913B3#32)) (Scalar.select d (lit 0x3F1007AB#32) (lit 0x3EE1A4B8#32)))
      (Scalar.select c (Scalar.select d (lit 0x3EAD033A#32) (lit 0x3E7C04DD#32)) (Scalar.select d (lit 0x3E24CAE3#32) (lit 0x3DA2FAFF#32))))
    (Scalar.select b
      (Scalar.select c (Scalar.select d (lit 0x00000000#32) (lit 0xBDBA7871#32)) (Scalar.select d (lit 0xBE3D353F#32) (lit 0xBE91A24D#32)))
      (Scalar.select c (Scalar.select d (lit 0xBECA32A0#32) (lit 0xBF066B30#32)) (Scalar.select d (lit 0xBF3239B1#32) (lit 0xBF800000#32))))

/-- The table value of a scaled element. -/
def table (x : F .f32) : F .f32 := tableOf (bit0 x) (bit1 x) (bit2 x) (bit3 x)

/-! ## The count of midpoints below -/

/-- One midpoint's contribution to the reference's count. -/
def below (x : F .f32) (b : BitVec 32) : BitVec 32 := (FloatOps.cmpf .ogt x (lit b : F .f32)).setWidth 32

/-- The reference's code: the number of midpoints below the element, added up in ascending order. -/
def count (x : F .f32) : BitVec 32 :=
  0#32 + below x 0xBF591CD8#32 + below x 0xBF1C5270#32 + below x 0xBEEB8480#32 + below x 0xBEADEA76#32
    + below x 0xBE703CEC#32 + below x 0xBE0D38BC#32 + below x 0xBD3A7871#32 + below x 0x3D22FAFF#32
    + below x 0x3DF64862#32 + below x 0x3E5067E0#32 + below x 0x3E9582D4#32 + below x 0x3EC753F9#32
    + below x 0x3F006D04#32 + below x 0x3F248DAF#32 + below x 0x3F5C89DA#32

/-- A descending chain of fifteen truth values: the binary search of it spells the number of true ones. -/
theorem search_eq_count (p0 p1 p2 p3 p4 p5 p6 p7 p8 p9 p10 p11 p12 p13 p14 : BitVec 1)
    (h1 : p1 = 1#1 → p0 = 1#1) (h2 : p2 = 1#1 → p1 = 1#1) (h3 : p3 = 1#1 → p2 = 1#1) (h4 : p4 = 1#1 → p3 = 1#1)
    (h5 : p5 = 1#1 → p4 = 1#1) (h6 : p6 = 1#1 → p5 = 1#1) (h7 : p7 = 1#1 → p6 = 1#1) (h8 : p8 = 1#1 → p7 = 1#1)
    (h9 : p9 = 1#1 → p8 = 1#1) (h10 : p10 = 1#1 → p9 = 1#1) (h11 : p11 = 1#1 → p10 = 1#1) (h12 : p12 = 1#1 → p11 = 1#1)
    (h13 : p13 = 1#1 → p12 = 1#1) (h14 : p14 = 1#1 → p13 = 1#1) :
    codeOf p7 (Scalar.select p7 p11 p3)
        (Scalar.select p7 (Scalar.select (Scalar.select p7 p11 p3) p13 p9) (Scalar.select (Scalar.select p7 p11 p3) p5 p1))
        (Scalar.select p7
          (Scalar.select (Scalar.select p7 p11 p3)
            (Scalar.select (Scalar.select p7 (Scalar.select (Scalar.select p7 p11 p3) p13 p9) (Scalar.select (Scalar.select p7 p11 p3) p5 p1)) p14 p12)
            (Scalar.select (Scalar.select p7 (Scalar.select (Scalar.select p7 p11 p3) p13 p9) (Scalar.select (Scalar.select p7 p11 p3) p5 p1)) p10 p8))
          (Scalar.select (Scalar.select p7 p11 p3)
            (Scalar.select (Scalar.select p7 (Scalar.select (Scalar.select p7 p11 p3) p13 p9) (Scalar.select (Scalar.select p7 p11 p3) p5 p1)) p6 p4)
            (Scalar.select (Scalar.select p7 (Scalar.select (Scalar.select p7 p11 p3) p13 p9) (Scalar.select (Scalar.select p7 p11 p3) p5 p1)) p2 p0)))
      = 0#32 + p0.setWidth 32 + p1.setWidth 32 + p2.setWidth 32 + p3.setWidth 32 + p4.setWidth 32 + p5.setWidth 32
        + p6.setWidth 32 + p7.setWidth 32 + p8.setWidth 32 + p9.setWidth 32 + p10.setWidth 32 + p11.setWidth 32
        + p12.setWidth 32 + p13.setWidth 32 + p14.setWidth 32 := by
  have hb : ∀ p : BitVec 1, p = 1#1 ∨ p = 0#1 := by decide
  have no : ∀ {p q : BitVec 1}, (q = 1#1 → p = 1#1) → p = 0#1 → q = 0#1 := by decide
  rcases hb p7 with e7 | e7
  · have e6 := h7 e7; have e5 := h6 e6; have e4 := h5 e5; have e3 := h4 e4; have e2 := h3 e3; have e1 := h2 e2; have e0 := h1 e1
    rcases hb p11 with e11 | e11
    · have e10 := h11 e11; have e9 := h10 e10; have e8 := h9 e9
      rcases hb p13 with e13 | e13
      · have e12 := h13 e13
        rcases hb p14 with e14 | e14 <;> subst_vars <;> decide
      · have e14 := no h14 e13
        rcases hb p12 with e12 | e12 <;> subst_vars <;> decide
    · have e12 := no h12 e11; have e13 := no h13 e12; have e14 := no h14 e13
      rcases hb p9 with e9 | e9
      · have e8 := h9 e9
        rcases hb p10 with e10 | e10 <;> subst_vars <;> decide
      · have e10 := no h10 e9
        rcases hb p8 with e8 | e8 <;> subst_vars <;> decide
  · have e8 := no h8 e7; have e9 := no h9 e8; have e10 := no h10 e9; have e11 := no h11 e10; have e12 := no h12 e11
    have e13 := no h13 e12; have e14 := no h14 e13
    rcases hb p3 with e3 | e3
    · have e2 := h3 e3; have e1 := h2 e2; have e0 := h1 e1
      rcases hb p5 with e5 | e5
      · have e4 := h5 e5
        rcases hb p6 with e6 | e6 <;> subst_vars <;> decide
      · have e6 := no h6 e5
        rcases hb p4 with e4 | e4 <;> subst_vars <;> decide
    · have e4 := no h4 e3; have e5 := no h5 e4; have e6 := no h6 e5
      rcases hb p1 with e1 | e1
      · have e0 := h1 e1
        rcases hb p2 with e2 | e2 <;> subst_vars <;> decide
      · have e2 := no h2 e1
        rcases hb p0 with e0 | e0 <;> subst_vars <;> decide

/-! ## Over the extended reals -/

/-- A comparison against a chosen value is the chosen comparison. -/
theorem gt_select (x a b : EReal) (c : BitVec 1) :
    Ideal.cmp .ogt x (Scalar.select c a b) = Scalar.select c (Ideal.cmp .ogt x a) (Ideal.cmp .ogt x b) := by
  unfold Scalar.select; split <;> rfl

/-- Above a value is above every smaller one. -/
theorem gt_mono {x a b : EReal} (h : a < b) (hb : Ideal.cmp .ogt x b = 1#1) : Ideal.cmp .ogt x a = 1#1 := by
  have hx : b < x := by
    by_contra hn
    have : Ideal.cmp .ogt x b = 0#1 := by unfold Ideal.cmp; simp [hn]
    rw [this] at hb; exact absurd hb (by decide)
  unfold Ideal.cmp; simp [h.trans hx]

/-- Which of two finite f32 patterns denotes the smaller value, decided on the patterns. -/
theorem lit_lt (a b : BitVec 32) (ha : ¬(TotalOrder.expo 8 23 a = 2 ^ 8 - 1 ∧ TotalOrder.frac 23 a ≠ 0))
    (hb : ¬(TotalOrder.expo 8 23 b = 2 ^ 8 - 1 ∧ TotalOrder.frac 23 b ≠ 0))
    (hz : ¬((TotalOrder.expo 8 23 a = 0 ∧ TotalOrder.frac 23 a = 0) ∧ (TotalOrder.expo 8 23 b = 0 ∧ TotalOrder.frac 23 b = 0) ∧ a.msb ≠ b.msb))
    (h : (totalOrderKey a).toNat < (totalOrderKey b).toNat) :
    (lit a : Ideal .f32) < (lit b : Ideal .f32) :=
  (TotalOrder.lt_iff (e := 8) (m := 23) ha hb hz).mp h

/-- The comparison of a scaled element against one midpoint. -/
abbrev above (x : Ideal .f32) (b : BitVec 32) : BitVec 1 := FloatOps.cmpf .ogt x (lit b : Ideal .f32)

/-- Two neighbouring midpoints: above the larger is above the smaller. -/
theorem above_chain (x : Ideal .f32) (a b : BitVec 32) (h : (lit a : Ideal .f32) < (lit b : Ideal .f32)) (hb : above x b = 1#1) :
    above x a = 1#1 := gt_mono h hb

/-- A comparison against a chosen midpoint is the chosen comparison. -/
theorem cmpf_select (x a b : Ideal .f32) (c : BitVec 1) :
    (FloatOps.cmpf .ogt x (Scalar.select c a b) : BitVec 1) = Scalar.select c (FloatOps.cmpf .ogt x a) (FloatOps.cmpf .ogt x b) :=
  gt_select x a b c

/-- The binary search finds the number of midpoints below. -/
theorem code_eq_count (x : Ideal .f32) : code x = count x := by
  have e1 : bit1 x = Scalar.select (bit0 x) (above x 0x3EC753F9#32) (above x 0xBEADEA76#32) := cmpf_select ..
  have e2 : bit2 x = Scalar.select (bit0 x) (Scalar.select (bit1 x) (above x 0x3F248DAF#32) (above x 0x3E5067E0#32))
      (Scalar.select (bit1 x) (above x 0xBE0D38BC#32) (above x 0xBF1C5270#32)) := by
    unfold bit2; rw [cmpf_select, cmpf_select, cmpf_select]
  have e3 : bit3 x = Scalar.select (bit0 x)
      (Scalar.select (bit1 x) (Scalar.select (bit2 x) (above x 0x3F5C89DA#32) (above x 0x3F006D04#32))
        (Scalar.select (bit2 x) (above x 0x3E9582D4#32) (above x 0x3DF64862#32)))
      (Scalar.select (bit1 x) (Scalar.select (bit2 x) (above x 0xBD3A7871#32) (above x 0xBE703CEC#32))
        (Scalar.select (bit2 x) (above x 0xBEEB8480#32) (above x 0xBF591CD8#32))) := by
    unfold bit3; rw [cmpf_select, cmpf_select, cmpf_select, cmpf_select, cmpf_select, cmpf_select, cmpf_select]
  unfold code
  rw [e3, e2, e1]
  exact search_eq_count (above x 0xBF591CD8#32) (above x 0xBF1C5270#32) (above x 0xBEEB8480#32) (above x 0xBEADEA76#32)
    (above x 0xBE703CEC#32) (above x 0xBE0D38BC#32) (above x 0xBD3A7871#32) (above x 0x3D22FAFF#32)
    (above x 0x3DF64862#32) (above x 0x3E5067E0#32) (above x 0x3E9582D4#32) (above x 0x3EC753F9#32)
    (above x 0x3F006D04#32) (above x 0x3F248DAF#32) (above x 0x3F5C89DA#32)
    (above_chain x _ _ (lit_lt _ _ (by decide) (by decide) (by decide) (by decide)))
    (above_chain x _ _ (lit_lt _ _ (by decide) (by decide) (by decide) (by decide)))
    (above_chain x _ _ (lit_lt _ _ (by decide) (by decide) (by decide) (by decide)))
    (above_chain x _ _ (lit_lt _ _ (by decide) (by decide) (by decide) (by decide)))
    (above_chain x _ _ (lit_lt _ _ (by decide) (by decide) (by decide) (by decide)))
    (above_chain x _ _ (lit_lt _ _ (by decide) (by decide) (by decide) (by decide)))
    (above_chain x _ _ (lit_lt _ _ (by decide) (by decide) (by decide) (by decide)))
    (above_chain x _ _ (lit_lt _ _ (by decide) (by decide) (by decide) (by decide)))
    (above_chain x _ _ (lit_lt _ _ (by decide) (by decide) (by decide) (by decide)))
    (above_chain x _ _ (lit_lt _ _ (by decide) (by decide) (by decide) (by decide)))
    (above_chain x _ _ (lit_lt _ _ (by decide) (by decide) (by decide) (by decide)))
    (above_chain x _ _ (lit_lt _ _ (by decide) (by decide) (by decide) (by decide)))
    (above_chain x _ _ (lit_lt _ _ (by decide) (by decide) (by decide) (by decide)))
    (above_chain x _ _ (lit_lt _ _ (by decide) (by decide) (by decide) (by decide)))

/-! ## Two codes in a byte -/

/-- A code has four bits. -/
theorem codeOf_high (a b c d : BitVec 1) (k : Nat) (hk : 4 ≤ k) : (codeOf a b c d).getLsbD k = false := by
  have h : codeOf a b c d < 16#32 := by revert a b c d; decide
  by_cases hk' : k < 32
  · have h16 : (codeOf a b c d).toNat < 2 ^ k := lt_of_lt_of_le (BitVec.lt_def.mp h) (show 2 ^ 4 ≤ 2 ^ k from Nat.pow_le_pow_right (by omega) hk)
    rw [BitVec.getLsbD, Nat.testBit_lt_two_pow h16]
  · exact BitVec.getLsbD_of_ge _ _ (by omega)

/-- The byte of an even row's code and the next row's: the even row's in the low half. -/
def byteOf (e o : BitVec 32) : BitVec 8 := (IntOp.ori e (IntOp.shli .host o 4#32)).setWidth 8

/-- Bit `k` of a code. -/
def bitOf (c k : BitVec 32) : BitVec 1 := IntOp.cmpi .ne (IntOp.andi (IntOp.shrsi .host c k) 1#32) 0#32

/-- The low half of the byte gives back the even row's four bits. -/
theorem low_bits (a b c d a' b' c' d' : BitVec 1) :
    bitOf (IntOp.andi ((byteOf (codeOf a b c d) (codeOf a' b' c' d')).setWidth 32) 15#32) 3#32 = a
    ∧ bitOf (IntOp.andi ((byteOf (codeOf a b c d) (codeOf a' b' c' d')).setWidth 32) 15#32) 2#32 = b
    ∧ bitOf (IntOp.andi ((byteOf (codeOf a b c d) (codeOf a' b' c' d')).setWidth 32) 15#32) 1#32 = c
    ∧ bitOf (IntOp.andi ((byteOf (codeOf a b c d) (codeOf a' b' c' d')).setWidth 32) 15#32) 0#32 = d := by
  revert a b c d a' b' c' d'; decide +kernel

/-- The high half of the byte gives back the odd row's four bits. -/
theorem high_bits (a b c d a' b' c' d' : BitVec 1) :
    bitOf (IntOp.shrsi .host ((byteOf (codeOf a b c d) (codeOf a' b' c' d')).setWidth 32) 4#32) 3#32 = a'
    ∧ bitOf (IntOp.shrsi .host ((byteOf (codeOf a b c d) (codeOf a' b' c' d')).setWidth 32) 4#32) 2#32 = b'
    ∧ bitOf (IntOp.shrsi .host ((byteOf (codeOf a b c d) (codeOf a' b' c' d')).setWidth 32) 4#32) 1#32 = c'
    ∧ bitOf (IntOp.shrsi .host ((byteOf (codeOf a b c d) (codeOf a' b' c' d')).setWidth 32) 4#32) 0#32 = d' := by
  revert a b c d a' b' c' d'; decide +kernel

/-! ## The table's values are real numbers -/

/-- A pattern whose exponent is not all ones denotes a real number. -/
theorem lit_real (b : BitVec 32) (h : (b.extractLsb' 23 8).toNat ≠ 2 ^ 8 - 1) : ∃ r : ℝ, (lit b : Ideal .f32) = (r : EReal) := by
  show ∃ r : ℝ, Ideal.ieee 8 23 b = (r : EReal)
  unfold Ideal.ieee
  simp only [h, if_false]
  split <;> exact ⟨_, rfl⟩

/-- A choice between two real values is real. -/
theorem select_real {x y : EReal} (c : BitVec 1) (hx : ∃ r : ℝ, x = (r : EReal)) (hy : ∃ r : ℝ, y = (r : EReal)) :
    ∃ r : ℝ, Scalar.select c x y = (r : EReal) := by
  unfold Scalar.select; split <;> assumption

/-- Every table value is a real number. -/
theorem tableOf_real (a b c d : BitVec 1) : ∃ r : ℝ, (tableOf a b c d : Ideal .f32) = (r : EReal) := by
  unfold tableOf
  repeat' (first | exact lit_real _ (by decide) | apply select_real)

end Cert.Nf4
-- ==== Proof.Pack.lean ====
/-
  Packing two rows of four-bit codes into a row of bytes.

  The kernel packs through words: four rows of codes, one byte each, make a word; the word or'ed with itself shifted by four
  holds, in bytes 0 and 2, the bytes wanted; these are moved together into a half word, and the half words are read as bytes.
  Read at one index, byte row `p` is the code of row `2p` in the low half and of row `2p + 1` in the high half.
-/
module

public import proofs.«01_k».proof.Proof.Nf4

@[expose] public section

set_option maxRecDepth 16384

noncomputable section

namespace Cert.Nf4

open Idealize.ShloMosaic

/-- The half word made of a word of four codes. -/
def halfWord (w : BitVec 32) : BitVec 16 :=
  (IntOp.ori (IntOp.andi (IntOp.ori w (IntOp.shrsi .vector w 4#32)) 255#32)
    (IntOp.andi (IntOp.shrsi .vector (IntOp.ori w (IntOp.shrsi .vector w 4#32)) 8#32) 65280#32)).setWidth 16

/-- Bit `q` of byte `e` of the half word: bit `q` of the word's byte `2e`, or the bit four above it. -/
theorem halfWord_getLsbD (w : BitVec 32) (e q : Nat) (he : e < 2) (hq : q < 8) :
    (halfWord w).getLsbD (8 * e + q) = (w.getLsbD (16 * e + q) || w.getLsbD (16 * e + q + 4)) := by
  have s4 (x : BitVec 32) : IntOp.shrsi .vector x 4#32 = x.sshiftRight 4 := rfl
  have s8 (x : BitVec 32) : IntOp.shrsi .vector x 8#32 = x.sshiftRight 8 := rfl
  unfold halfWord IntOp.ori IntOp.andi
  simp only [s4, s8, BitVec.getLsbD_setWidth, BitVec.getLsbD_or, BitVec.getLsbD_and]
  interval_cases e <;> interval_cases q <;> simp [BitVec.getElem_sshiftRight]

section
variable {n : Nat}

/-- The packing of a block of 64 rows of codes into 32 rows of bytes. -/
def pack (h1 : (⟨2, ![64, n]⟩ : Shape).Bitcasts 8 ⟨2, ![16, n]⟩ 32) (h2 : (⟨2, ![16, n]⟩ : Shape).Bitcasts 16 ⟨2, ![8, n]⟩ 32)
    (h3 : (⟨2, ![8, n]⟩ : Shape).Bitcasts 32 ⟨2, ![32, n]⟩ 8) (c : IVec ⟨2, ![64, n]⟩ 32) : IVec ⟨2, ![32, n]⟩ 8 :=
  bitcast ⟨2, ![32, n]⟩ 8 (bitcast ⟨2, ![8, n]⟩ 32 (fun i => halfWord (bitcast ⟨2, ![16, n]⟩ 32 (fun i => (c i).setWidth 8) h1 i)) h2) h3

/-- A bit of a re-read array of rows, at a row and a lane: the same lane, at the row and bit the bit's place falls on. -/
theorem bitcast_ix2 {R r v w : Nat} (x : (⟨2, ![R, n]⟩ : Shape).Idx → BitVec v) (h : (⟨2, ![R, n]⟩ : Shape).Bitcasts v ⟨2, ![r, n]⟩ w)
    (a : Fin r) (l : Fin n) (q : Nat) (hq : q < w) (hv : 0 < v) (b : Fin R) (hb : b.val = (a.val * w + q) / v) (k : Nat)
    (hk : k = (a.val * w + q) % v) :
    (bitcast ⟨2, ![r, n]⟩ w x h (ix2 a l)).getLsbD q = (x (ix2 b l)).getLsbD k := by
  rw [bitcast_getLsbD x h _ q hq hv, hk]
  congr 2
  funext c
  match c with
  | ⟨0, _⟩ => exact Fin.ext ((h.srcIdx_row _ _ _ ⟨0, Nat.zero_lt_two⟩ rfl).trans hb.symm)
  | ⟨1, _⟩ => exact Fin.ext (h.srcIdx_other _ _ _ ⟨1, Nat.one_lt_two⟩ (by show ¬ 1 + 2 = 2; omega))

/-- The packed rows hold, at each place, the code of the even row and that of the odd row four bits higher. -/
theorem pack_apply (h1 : (⟨2, ![64, n]⟩ : Shape).Bitcasts 8 ⟨2, ![16, n]⟩ 32) (h2 : (⟨2, ![16, n]⟩ : Shape).Bitcasts 16 ⟨2, ![8, n]⟩ 32)
    (h3 : (⟨2, ![8, n]⟩ : Shape).Bitcasts 32 ⟨2, ![32, n]⟩ 8) (c : IVec ⟨2, ![64, n]⟩ 32)
    (hc : ∀ i k, 4 ≤ k → (c i).getLsbD k = false) (p : Fin 32) (l : Fin n) :
    pack h1 h2 h3 c (ix2 p l) = byteOf (c (ix2 (⟨2 * p.val, by omega⟩ : Fin 64) l)) (c (ix2 (⟨2 * p.val + 1, by omega⟩ : Fin 64) l)) := by
  apply BitVec.eq_of_getLsbD_eq
  intro q hq
  have hp := p.isLt
  unfold pack
  rw [bitcast_ix2 _ h3 p l q hq (by decide) ⟨p.val / 4, by omega⟩ (by simp only; omega) (8 * (p.val % 4) + q) (by omega)]
  rw [bitcast_ix2 _ h2 (⟨p.val / 4, by omega⟩ : Fin 8) l (8 * (p.val % 4) + q) (by omega) (by decide) ⟨p.val / 2, by omega⟩ (by simp only; omega)
    (8 * (p.val % 2) + q) (by simp only; omega)]
  rw [halfWord_getLsbD _ _ _ (by omega) hq]
  rw [bitcast_ix2 _ h1 (⟨p.val / 2, by omega⟩ : Fin 16) l (16 * (p.val % 2) + q) (by omega) (by decide) ⟨2 * p.val, by omega⟩
    (by simp only; omega) q (by simp only; omega)]
  rw [bitcast_ix2 _ h1 (⟨p.val / 2, by omega⟩ : Fin 16) l (16 * (p.val % 2) + q + 4) (by omega) (by decide) ⟨2 * p.val + (q + 4) / 8, by omega⟩
    (by simp only; omega) ((q + 4) % 8) (by simp only; omega)]
  have h4 : (IntOp.shli .host (c (ix2 (⟨2 * p.val + 1, by omega⟩ : Fin 64) l)) 4#32)
      = c (ix2 (⟨2 * p.val + 1, by omega⟩ : Fin 64) l) <<< 4 := rfl
  unfold byteOf IntOp.ori
  rw [h4]
  simp only [BitVec.getLsbD_setWidth, BitVec.getLsbD_or, BitVec.getLsbD_shiftLeft]
  by_cases h : q < 4
  · have e1 : (q + 4) / 8 = 0 := by omega
    have e2 : (q + 4) % 8 = q + 4 := by omega
    simp [hq, h, e2, hc _ (q + 4) (by omega)]
  · have e1 : (q + 4) / 8 = 1 := by omega
    have e2 : (q + 4) % 8 = q - 4 := by omega
    simp [hq, h, e1, e2, hc _ q (by omega), show q < 32 by omega, show q - 4 < 8 by omega]

end

end Cert.Nf4
-- ==== Proof.Block.lean ====
/-
  One block of the quantiser: 64 rows of 128 columns.

  The kernel works a 512 by 512 tile in 8 by 4 such blocks. Here a block's scale, code, bytes and residual are functions of the
  block's values, with the printed operations; the whole-tile functions read them off the tile at a row and a column.
-/
module

public import proofs.«01_k».proof.Proof.Pack
public import proofs.«01_k».proof.Proof.Gen.KernelIdeal.Skeleton

@[expose] public section

set_option maxRecDepth 16384

noncomputable section

namespace Cert.KernelIdeal.Block

open Idealize.ShloMosaic Idealize.ShloMosaic.TcCoe Idealize.SL.Sem
open Cert.KernelIdeal Cert.KernelIdeal.Gen Cert.Nf4

variable {F : FTy → Type} [FloatOps F]

/-- The largest magnitude of each column of a block. -/
def colMax (t : FVec F S64x128 .f32) : FVec F S1x128 .f32 :=
  shapeCast S1x128 (multiReduction .maximumf [0] S128 (absf t) 0xFF800000#32 reduces_S64x128_S128 (.inl rfl) rfl) shapeCasts_S128_S1x128

/-- Each column's scale: its largest magnitude, or one where that is zero. -/
def scale (t : FVec F S64x128 .f32) : FVec F S1x128 .f32 :=
  select (cmpf .oeq (colMax t) (broadcast S1x128 (Scalar.ofBits .f32 0x00000000#32 : F .f32)))
    (broadcast S1x128 (Scalar.ofBits .f32 0x3F800000#32 : F .f32)) (colMax t)

/-- The block divided by its columns' scales. -/
def scaled (t : FVec F S64x128 .f32) : FVec F S64x128 .f32 := divf t (broadcastTo S64x128 (scale t) broadcasts_S1x128_S64x128)

/-- The block's codes. -/
def codes (t : FVec F S64x128 .f32) : IVec S64x128 32 := fun i => code (scaled t i)

/-- The block's codes, two rows to a byte. -/
def bytes (t : FVec F S64x128 .f32) : IVec S32x128 8 :=
  pack bitcasts_S64x128_w8_S16x128_w32 bitcasts_S16x128_w16_S8x128_w32 bitcasts_S8x128_w32_S32x128_w8 (codes t)

/-- What the codes leave of the weights `w`. -/
def left (t w : FVec F S64x128 .f32) : FVec F S64x128 .f32 :=
  subf w (mulf (fun i => table (scaled t i)) (broadcastTo S64x128 (scale t) broadcasts_S1x128_S64x128))

/-! ## The whole tile -/

/-- Block `b`, `g` of a tile. -/
def block (V : FVec F S512x512 .f32) (b : Fin 8) (g : Fin 4) : FVec F S64x128 .f32 := fun j =>
  V (ix2 (⟨64 * b.val + (j 0).val, by have := b.isLt; have : (j 0).val < 64 := (j 0).isLt; omega⟩ : Fin 512)
    (⟨128 * g.val + (j 1).val, by have := g.isLt; have : (j 1).val < 128 := (j 1).isLt; omega⟩ : Fin 512))

/-- The tile's scale for block row `b` at column `c`. -/
def scaleAt (V : FVec F S512x512 .f32) (b : Fin 8) (c : Fin 512) : F .f32 :=
  scale (block V b ⟨c.val / 128, by omega⟩) (ix2 0 ⟨c.val % 128, Nat.mod_lt _ (by decide)⟩)

/-- The tile's byte at byte row `p` and column `c`. -/
def byteAt (V : FVec F S512x512 .f32) (p : Fin 256) (c : Fin 512) : BitVec 8 :=
  bytes (block V ⟨p.val / 32, by omega⟩ ⟨c.val / 128, by omega⟩)
    (ix2 (⟨p.val % 32, Nat.mod_lt _ (by decide)⟩ : Fin 32) (⟨c.val % 128, Nat.mod_lt _ (by decide)⟩ : Fin 128))

/-- The tile's residual at row `s` and column `c`, of the weights `W`. -/
def leftAt (V W : FVec F S512x512 .f32) (s c : Fin 512) : F .f32 :=
  left (block V ⟨s.val / 64, by omega⟩ ⟨c.val / 128, by omega⟩) (block W ⟨s.val / 64, by omega⟩ ⟨c.val / 128, by omega⟩)
    (ix2 (⟨s.val % 64, Nat.mod_lt _ (by decide)⟩ : Fin 64) (⟨c.val % 128, Nat.mod_lt _ (by decide)⟩ : Fin 128))

end Cert.KernelIdeal.Block
-- ==== Proof.Pieces.lean ====
/-
  The stores of one grid point, one at a time.

  A point stores its scales, its bytes, its residual's three parts and its running squares one 64 by 128 block after another.
  Each store's payload is one of the block functions of what was loaded of the tile; read at an index it is the tile function
  there. One lemma per kind of store serves all 32 blocks.
-/
module

public import proofs.«01_k».proof.Proof.Block
public import Idealize.ShloMosaic.Lib.Pipeline.ValueKit
public import Idealize.ShloMosaic.Lib.Pointwise

@[expose] public section

set_option maxRecDepth 16384

noncomputable section

namespace Cert.KernelIdeal.Block

open Idealize.ShloMosaic Idealize.ShloMosaic.TcCoe Idealize.SL.Sem
open Cert.KernelIdeal Cert.KernelIdeal.Gen Cert.Nf4

variable {F : FTy → Type} [FloatOps F]

/-- A whole array stored once. -/
abbrev stored (V : FVec F S512x512 .f32) : List (View.Piece (Elt F) S512x512 .f32) :=
  [⟨Rect.unit ![0, 0] S512x512.size inb_S512x512_S512x512_0_0, V⟩]

/-- A load of 64 rows and 128 columns of a tile stored whole is the tile's block there. -/
theorem load_block (v : View sig .tc .vmem S512x512 .f32) (V : FVec F S512x512 .f32)
    (o0 o1 : Nat) (hin : ∀ a, (![o0, o1] : Fin S512x512.rank → Nat) a + S64x128.size a ≤ S512x512.size a)
    (b : Fin 8) (g : Fin 4) (hb : o0 = 64 * b.val) (hg : o1 = 128 * g.val) :
    v.readCov (stored V) (Rect.unit (s := S512x512) ![o0, o1] S64x128.size hin).toLoadRect = block V b g := by
  rw [View.readCov_eq_canon']
  funext j
  rw [View.canon_unit_zero (by funext a; match a with | ⟨0, _⟩ => rfl | ⟨1, _⟩ => rfl)]
  unfold block
  congr 1
  funext a
  match a with
  | ⟨0, _⟩ => exact Fin.ext ((Rect.idx_unit_val ..).trans (by subst hb; rfl))
  | ⟨1, _⟩ => exact Fin.ext ((Rect.idx_unit_val ..).trans (by subst hg; rfl))

/-- One row under a unit axis, read at an index. -/
theorem row_apply {α : Type} (f : S1x128.Idx → α) (h : S1x128.ShapeCasts S1x1x128) (x : S1x1x128.Idx) (l : Fin 128) (hl : l.val = (x 2).val) :
    shapeCast S1x1x128 f h x = f (ix2 0 l) :=
  shapeCast_apply f h x _ (by
    have h0 : (x 0).val < 1 := (x 0).isLt
    have h1 : (x 1).val < 1 := (x 1).isLt
    simp [Shape.rowMajor_val_two, Shape.rowMajor_val_three, hl])

/-- A plane under a unit axis, read at an index. -/
theorem plane_apply {α : Type} (f : S32x128.Idx → α) (h : S32x128.ShapeCasts S1x32x128) (x : S1x32x128.Idx) (r : Fin 32) (l : Fin 128)
    (hr : r.val = (x 1).val) (hl : l.val = (x 2).val) : shapeCast S1x32x128 f h x = f (ix2 r l) :=
  shapeCast_apply f h x _ (by
    have h0 : (x 0).val < 1 := (x 0).isLt
    simp [Shape.rowMajor_val_two, Shape.rowMajor_val_three, hl, hr])

/-- A store of a block's scales holds the tile's scales. -/
theorem scale_piece {L : List (View.Piece (Elt F) S512x512 .f32)} {V : FVec F S512x512 .f32} (hL : L = stored V)
    (y0 : Fin 8) (c : Fin 512) (v : View sig .tc .vmem S512x512 .f32)
    (o0 o1 : Nat) (hin : ∀ a, (![o0, o1] : Fin S512x512.rank → Nat) a + S64x128.size a ≤ S512x512.size a)
    (x : S1x1x128.Idx) (hb : o0 = 64 * y0.val) (h1 : o1 % 128 = 0) (hc : c.val = o1 + (x 2).val) (hs : S1x128.ShapeCasts S1x1x128 := by decide) :
    shapeCast S1x1x128 (scale (v.readCov L (Rect.unit (s := S512x512) ![o0, o1] S64x128.size hin).toLoadRect)) hs x = scaleAt V y0 c := by
  have hx : (x 2).val < 128 := (x 2).isLt
  subst hL
  rw [load_block v V o0 o1 hin y0 ⟨c.val / 128, by omega⟩ hb (by simp only; omega)]
  unfold scaleAt
  rw [row_apply _ hs x ⟨c.val % 128, Nat.mod_lt _ (by decide)⟩ (by simp only; omega)]

/-- A store of a block's bytes holds the tile's bytes. -/
theorem byte_piece {L : List (View.Piece (Elt F) S512x512 .f32)} {V : FVec F S512x512 .f32} (hL : L = stored V)
    (p : Fin 256) (c : Fin 512) (v : View sig .tc .vmem S512x512 .f32)
    (o0 o1 : Nat) (hin : ∀ a, (![o0, o1] : Fin S512x512.rank → Nat) a + S64x128.size a ≤ S512x512.size a)
    (x : S1x32x128.Idx) (h0 : o0 % 64 = 0) (hp : 2 * p.val = o0 + 2 * (x 1).val) (h1 : o1 % 128 = 0) (hc : c.val = o1 + (x 2).val)
    (hs : S32x128.ShapeCasts S1x32x128 := by decide) :
    shapeCast S1x32x128 (bytes (v.readCov L (Rect.unit (s := S512x512) ![o0, o1] S64x128.size hin).toLoadRect)) hs x = byteAt V p c := by
  have hx1 : (x 1).val < 32 := (x 1).isLt
  have hx : (x 2).val < 128 := (x 2).isLt
  subst hL
  rw [load_block v V o0 o1 hin ⟨p.val / 32, by omega⟩ ⟨c.val / 128, by omega⟩ (by simp only; omega) (by simp only; omega)]
  unfold byteAt
  rw [plane_apply _ hs x ⟨p.val % 32, Nat.mod_lt _ (by decide)⟩ ⟨c.val % 128, Nat.mod_lt _ (by decide)⟩ (by simp only; omega) (by simp only; omega)]

end Cert.KernelIdeal.Block
-- ==== Proof.Lists.lean ====
/-
  The stores of one grid point, as lists.

  A point works its tile block after block: 8 block rows of 4 blocks. Every list of stores it leaves is one of the lists here,
  over the tile and the loaded arrays; each list read at an index is a function of the tile there.
-/
module

public import proofs.«01_k».proof.Proof.Pieces

@[expose] public section

set_option maxRecDepth 16384

noncomputable section

namespace Cert.KernelIdeal.Block

open Idealize.ShloMosaic Idealize.ShloMosaic.TcCoe Idealize.SL.Sem
open Cert.KernelIdeal Cert.KernelIdeal.Gen Cert.Nf4

variable {F : FTy → Type} [FloatOps F]

/-! ## Lists over the 32 blocks -/

/-- The stores of block row `b` before the list `L`, the last block first. -/
def row {α : Type} (p : Fin 8 → Fin 4 → List α) (b : Fin 8) (L : List α) : List α := p b 3 ++ (p b 2 ++ (p b 1 ++ (p b 0 ++ L)))

/-- The stores of all blocks, the last first. -/
def rows {α : Type} (p : Fin 8 → Fin 4 → List α) : List α :=
  row p 7 (row p 6 (row p 5 (row p 4 (row p 3 (row p 2 (row p 1 (row p 0 [])))))))

/-- A store is in a block row's list exactly where it is one of the row's or of the rest. -/
theorem mem_row {α : Type} (p : Fin 8 → Fin 4 → List α) (b : Fin 8) (L : List α) (z : α) :
    z ∈ row p b L ↔ (∃ g, z ∈ p b g) ∨ z ∈ L := by
  simp only [row, List.mem_append, Fin.exists_fin_succ, IsEmpty.exists_iff, or_false]
  constructor
  · rintro (h | h | h | h | h)
    · exact Or.inl (Or.inr (Or.inr (Or.inr h)))
    · exact Or.inl (Or.inr (Or.inr (Or.inl h)))
    · exact Or.inl (Or.inr (Or.inl h))
    · exact Or.inl (Or.inl h)
    · exact Or.inr h
  · rintro ((h | h | h | h) | h)
    · exact Or.inr (Or.inr (Or.inr (Or.inl h)))
    · exact Or.inr (Or.inr (Or.inl h))
    · exact Or.inr (Or.inl h)
    · exact Or.inl h
    · exact Or.inr (Or.inr (Or.inr (Or.inr h)))

/-- A store is in the list of all blocks exactly where it is some block's. -/
theorem mem_rows {α : Type} (p : Fin 8 → Fin 4 → List α) (z : α) : z ∈ rows p ↔ ∃ b g, z ∈ p b g := by
  simp only [rows, mem_row, List.not_mem_nil, or_false]
  constructor
  · rintro (h | h | h | h | h | h | h | h) <;> exact ⟨_, h⟩
  · rintro ⟨b, h⟩
    match b, h with
    | 7, h => exact Or.inl h
    | 6, h => exact Or.inr (Or.inl h)
    | 5, h => exact Or.inr (Or.inr (Or.inl h))
    | 4, h => exact Or.inr (Or.inr (Or.inr (Or.inl h)))
    | 3, h => exact Or.inr (Or.inr (Or.inr (Or.inr (Or.inl h))))
    | 2, h => exact Or.inr (Or.inr (Or.inr (Or.inr (Or.inr (Or.inl h)))))
    | 1, h => exact Or.inr (Or.inr (Or.inr (Or.inr (Or.inr (Or.inr (Or.inl h))))))
    | 0, h => exact Or.inr (Or.inr (Or.inr (Or.inr (Or.inr (Or.inr (Or.inr h))))))

/-- The list of all blocks' stores, each agreeing with `G`, read at an index some store holds. -/
theorem canon_rows {S : Shape} {e : EltTy} (p : Fin 8 → Fin 4 → List (View.Piece (Elt F) S e)) (G : S.Idx → Elt F e)
    (hp : ∀ b g, ∀ q ∈ p b g, ∀ x : q.1.shape.Idx, q.2 x = G (q.1.emb x)) (y : S.Idx)
    (hy : ∃ b g, ∃ q ∈ p b g, y ∈ q.1.set) : View.canon (rows p) y = G y := by
  refine View.canon_apply_of_pieces G (rows p) (fun q hq x => ?_) y ?_
  · obtain ⟨b, g, h⟩ := (mem_rows p q).1 hq
    exact hp b g q h x
  · obtain ⟨b, g, q, h, hq⟩ := hy
    exact ⟨q, (mem_rows p q).2 ⟨b, g, h⟩, hq⟩

/-- A place lies in a block exactly where, on each axis, it lies between the block's ends. -/
theorem mem_unit {S : Shape} {off size : Fin S.rank → Nat} (inb : ∀ a, off a + size a ≤ S.size a) {y : S.Idx} :
    y ∈ (Rect.unit off size inb).set ↔ ∀ a, off a ≤ (y a).val ∧ (y a).val < off a + size a := Rect.mem_set_unit

/-! ## The blocks' loads -/

/-- Every block of 64 × 128 lies within the tile. -/
theorem in_tile (b : Fin 8) (g : Fin 4) (a : Fin S512x512.rank) :
    (![64 * b.val, 128 * g.val] : Fin S512x512.rank → Nat) a + S64x128.size a ≤ S512x512.size a := by
  match a with
  | ⟨0, _⟩ => show 64 * b.val + 64 ≤ 512; omega
  | ⟨1, _⟩ => show 128 * g.val + 128 ≤ 512; omega

/-- Every block of 64 × 128 lies within the block of weights. -/
theorem in_weights (b : Fin 8) (g : Fin 4) (a : Fin S1x512x512.rank) :
    (![0, 64 * b.val, 128 * g.val] : Fin S1x512x512.rank → Nat) a + S1x64x128.size a ≤ S1x512x512.size a := by
  match a with
  | ⟨0, _⟩ => show 0 + 1 ≤ 1; omega
  | ⟨1, _⟩ => show 64 * b.val + 64 ≤ 512; omega
  | ⟨2, _⟩ => show 128 * g.val + 128 ≤ 512; omega

/-- The load of a block of a tile stored whole. -/
def loadTile (v : View sig .tc .vmem S512x512 .f32) (V : FVec F S512x512 .f32) (b : Fin 8) (g : Fin 4) : FVec F S64x128 .f32 :=
  v.readCov (stored V) (Rect.unit (s := S512x512) ![64 * b.val, 128 * g.val] S64x128.size (in_tile b g)).toLoadRect

/-- A load of one block after the whole tile was stored reads that block of the tile. -/
theorem loadTile_eq (v : View sig .tc .vmem S512x512 .f32) (V : FVec F S512x512 .f32) (b : Fin 8) (g : Fin 4) :
    loadTile v V b g = block V b g := load_block v V _ _ _ b g rfl rfl

/-- The load of a block of the weights. -/
def loadW (X : Vec F S1x512x512 .bf16) (b : Fin 8) (g : Fin 4) : FVec F S64x128 .f32 :=
  extf .f32 (shapeCast S64x128 (View.ld X (Rect.unit (s := S1x512x512) ![0, 64 * b.val, 128 * g.val] S1x64x128.size (in_weights b g)))
    shapeCasts_S1x64x128_S64x128) bitsLt_bf16_f32

/-- The weights as a tile. -/
def tileW (X : Vec F S1x512x512 .bf16) : FVec F S512x512 .f32 :=
  fun j => FloatOps.extf .f32 bitsLt_bf16_f32 (X (Idealize.ShloMosaic.ix3 (0 : Fin 1) (j 0) (j 1)))

/-- A load of one block of the weights, widened, is that block of the widened weights. -/
theorem loadW_eq (X : Vec F S1x512x512 .bf16) (b : Fin 8) (g : Fin 4) : loadW X b g = block (tileW X) b g := by
  funext j
  have h0 : (j 0).val < 64 := (j 0).isLt
  have h1 : (j 1).val < 128 := (j 1).isLt
  show FloatOps.extf .f32 bitsLt_bf16_f32 _ = FloatOps.extf .f32 bitsLt_bf16_f32 _
  congr 1
  rw [shapeCast_apply _ shapeCasts_S1x64x128_S64x128 j (Idealize.ShloMosaic.ix3 (0 : Fin 1) (j 0) (j 1)) (by
    simp [Shape.rowMajor_val_two, Shape.rowMajor_val_three])]
  refine View.ld_unit_apply_of X _ _ _ _ _ fun a => ?_
  match a with
  | ⟨0, _⟩ => rfl
  | ⟨1, _⟩ => rfl
  | ⟨2, _⟩ => rfl

/-- What a block's codes leave of its weights, over the loads. -/
def leftOf (v : View sig .tc .vmem S512x512 .f32) (V : FVec F S512x512 .f32) (X : Vec F S1x512x512 .bf16) (b : Fin 8) (g : Fin 4) :
    FVec F S64x128 .f32 := left (loadTile v V b g) (loadW X b g)

/-- What quantisation leaves of a block, element by element. -/
theorem leftOf_apply (v : View sig .tc .vmem S512x512 .f32) (V : FVec F S512x512 .f32) (X : Vec F S1x512x512 .bf16) (b : Fin 8) (g : Fin 4)
    (x : S64x128.Idx) (s c : Fin 512) (hs : s.val = 64 * b.val + (x 0).val) (hc : c.val = 128 * g.val + (x 1).val) :
    leftOf v V X b g x = leftAt V (tileW X) s c := by
  have h0 : (x 0).val < 64 := (x 0).isLt
  have h1 : (x 1).val < 128 := (x 1).isLt
  have e1 : (⟨s.val / 64, by omega⟩ : Fin 8) = b := Fin.ext (by simp only; omega)
  have e2 : (⟨c.val / 128, by omega⟩ : Fin 4) = g := Fin.ext (by simp only; omega)
  have e3 : ix2 (⟨s.val % 64, Nat.mod_lt _ (by decide)⟩ : Fin 64) (⟨c.val % 128, Nat.mod_lt _ (by decide)⟩ : Fin 128) = x := by
    funext a
    match a with
    | ⟨0, _⟩ => exact Fin.ext (show s.val % 64 = (x 0).val by omega)
    | ⟨1, _⟩ => exact Fin.ext (show c.val % 128 = (x 1).val by omega)
  unfold leftOf leftAt
  rw [loadTile_eq, loadW_eq, e1, e2, e3]

/-! ## The scales and the bytes -/

/-- The place of a block's scales lies within the block of scales. -/
theorem in_scales (b : Fin 8) (g : Fin 4) (a : Fin S1x8x512.rank) :
    (![0, b.val, 128 * g.val] : Fin S1x8x512.rank → Nat) a + S1x1x128.size a ≤ S1x8x512.size a := by
  match a with
  | ⟨0, _⟩ => show 0 + 1 ≤ 1; omega
  | ⟨1, _⟩ => show b.val + 1 ≤ 8; omega
  | ⟨2, _⟩ => show 128 * g.val + 128 ≤ 512; omega

/-- The place of a block's codes lies within the block of codes. -/
theorem in_bytes (b : Fin 8) (g : Fin 4) (a : Fin S1x256x512.rank) :
    (![0, 32 * b.val, 128 * g.val] : Fin S1x256x512.rank → Nat) a + S1x32x128.size a ≤ S1x256x512.size a := by
  match a with
  | ⟨0, _⟩ => show 0 + 1 ≤ 1; omega
  | ⟨1, _⟩ => show 32 * b.val + 32 ≤ 256; omega
  | ⟨2, _⟩ => show 128 * g.val + 128 ≤ 512; omega

/-- The store of one block's scales. -/
def scaleStore (v : View sig .tc .vmem S512x512 .f32) (V : FVec F S512x512 .f32) (b : Fin 8) (g : Fin 4) :
    List (View.Piece (Elt F) S1x8x512 .f32) :=
  [⟨Rect.unit (s := S1x8x512) ![0, b.val, 128 * g.val] S1x1x128.size (in_scales b g),
    shapeCast S1x1x128 (scale (loadTile v V b g)) shapeCasts_S1x128_S1x1x128⟩]

/-- The store of one block's codes. -/
def byteStore (v : View sig .tc .vmem S512x512 .f32) (V : FVec F S512x512 .f32) (b : Fin 8) (g : Fin 4) :
    List (View.Piece (Elt F) S1x256x512 .i8) :=
  [⟨Rect.unit (s := S1x256x512) ![0, 32 * b.val, 128 * g.val] S1x32x128.size (in_bytes b g),
    shapeCast S1x32x128 (bytes (loadTile v V b g)) shapeCasts_S32x128_S1x32x128⟩]

/-- The stored scales of a block are those of the tile at the block's place. -/
theorem scale_at (v : View sig .tc .vmem S512x512 .f32) (V : FVec F S512x512 .f32) (b : Fin 8) (g : Fin 4) (x : S1x1x128.Idx)
    (p : Fin 8) (c : Fin 512) (hp : p.val = b.val) (hc : c.val = 128 * g.val + (x 2).val) :
    shapeCast S1x1x128 (scale (loadTile v V b g)) shapeCasts_S1x128_S1x1x128 x = scaleAt V p c := by
  unfold loadTile
  exact scale_piece rfl p c v _ _ _ x (by omega) (by omega) hc _

/-- The stored codes of a block are those of the tile at the block's place. -/
theorem byte_at (v : View sig .tc .vmem S512x512 .f32) (V : FVec F S512x512 .f32) (b : Fin 8) (g : Fin 4) (x : S1x32x128.Idx)
    (p : Fin 256) (c : Fin 512) (hp : p.val = 32 * b.val + (x 1).val) (hc : c.val = 128 * g.val + (x 2).val) :
    shapeCast S1x32x128 (bytes (loadTile v V b g)) shapeCasts_S32x128_S1x32x128 x = byteAt V p c := by
  unfold loadTile
  exact byte_piece rfl p c v _ _ _ x (by omega) (by omega) (by omega) hc _

/-- After the stores of all blocks the scales are the tile's. -/
theorem canon_scales (v : View sig .tc .vmem S512x512 .f32) (V : FVec F S512x512 .f32) (y : S1x8x512.Idx) :
    View.canon (rows (scaleStore v V)) y = scaleAt V (y 1) (y 2) := by
  refine canon_rows (F := F) (e := .f32) _ (fun y => scaleAt V (y 1) (y 2)) ?_ y ?_
  · intro b g q hq x
    obtain rfl := List.mem_singleton.1 hq
    have h1 : (x 1).val < 1 := (x 1).isLt
    exact scale_at v V b g x _ _ (show b.val + 1 * (x 1).val = b.val by omega)
      (show 128 * g.val + 1 * (x 2).val = 128 * g.val + (x 2).val by omega)
  · have h0 : (y 0).val < 1 := (y 0).isLt
    have h1 : (y 1).val < 8 := (y 1).isLt
    have h2 : (y 2).val < 512 := (y 2).isLt
    refine ⟨⟨(y 1).val, h1⟩, ⟨(y 2).val / 128, by omega⟩, _, List.mem_singleton.2 rfl, (mem_unit (in_scales ⟨(y 1).val, h1⟩ ⟨(y 2).val / 128, by omega⟩)).2 fun a => ?_⟩
    match a with
    | ⟨0, _⟩ => exact ⟨Nat.zero_le _, show (y 0).val < 0 + 1 by omega⟩
    | ⟨1, _⟩ => exact ⟨le_refl _, show (y 1).val < (y 1).val + 1 by omega⟩
    | ⟨2, _⟩ => exact ⟨show 128 * ((y 2).val / 128) ≤ (y 2).val by omega, show (y 2).val < 128 * ((y 2).val / 128) + 128 by omega⟩

/-- The bytes as a block. -/
def byteBlock (V : FVec F S512x512 .f32) : Vec F S1x256x512 .i8 := fun y => byteAt V (y 1) (y 2)

/-- After the stores of all blocks the codes are the tile's. -/
theorem canon_bytes (v : View sig .tc .vmem S512x512 .f32) (V : FVec F S512x512 .f32) (y : S1x256x512.Idx) :
    View.canon (rows (byteStore v V)) y = byteBlock V y := by
  refine canon_rows (byteStore v V) (byteBlock V) ?_ y ?_
  · intro b g q hq x
    obtain rfl := List.mem_singleton.1 hq
    exact byte_at v V b g x _ _ (show 32 * b.val + 1 * (x 1).val = 32 * b.val + (x 1).val by omega)
      (show 128 * g.val + 1 * (x 2).val = 128 * g.val + (x 2).val by omega)
  · have h0 : (y 0).val < 1 := (y 0).isLt
    have h1 : (y 1).val < 256 := (y 1).isLt
    have h2 : (y 2).val < 512 := (y 2).isLt
    refine ⟨⟨(y 1).val / 32, by omega⟩, ⟨(y 2).val / 128, by omega⟩, _, List.mem_singleton.2 rfl, (mem_unit (in_bytes ⟨(y 1).val / 32, by omega⟩ ⟨(y 2).val / 128, by omega⟩)).2 fun a => ?_⟩
    match a with
    | ⟨0, _⟩ => exact ⟨Nat.zero_le _, show (y 0).val < 0 + 1 by omega⟩
    | ⟨1, _⟩ => exact ⟨show 32 * ((y 1).val / 32) ≤ (y 1).val by omega, show (y 1).val < 32 * ((y 1).val / 32) + 32 by omega⟩
    | ⟨2, _⟩ => exact ⟨show 128 * ((y 2).val / 128) ≤ (y 2).val by omega, show (y 2).val < 128 * ((y 2).val / 128) + 128 by omega⟩

/-! ## A value in three parts -/

/-- The leading part of a number. -/
def hi1 (x : F .f32) : F .bf16 := FloatOps.truncf .bf16 bitsLt_bf16_f32 x
/-- What the leading part leaves. -/
def rest1 (x : F .f32) : F .f32 := FloatOps.subf x (FloatOps.extf .f32 bitsLt_bf16_f32 (hi1 x))
/-- The second part of a number. -/
def mid1 (x : F .f32) : F .bf16 := hi1 (rest1 x)
/-- The third part of a number. -/
def lo1 (x : F .f32) : F .bf16 := hi1 (rest1 (rest1 x))

/-! ## The residual's parts, stacked -/

/-- The place of a block's part lies within the stack of the three parts. -/
theorem in_stack (k : Fin 3) (b : Fin 8) (g : Fin 4) (a : Fin S1536x512.rank) :
    (![512 * k.val + 64 * b.val, 128 * g.val] : Fin S1536x512.rank → Nat) a + S64x128.size a ≤ S1536x512.size a := by
  match a with
  | ⟨0, _⟩ => show 512 * k.val + 64 * b.val + 64 ≤ 1536; omega
  | ⟨1, _⟩ => show 128 * g.val + 128 ≤ 512; omega

/-- Part `k` of a value. -/
def part1 (k : Nat) (x : F .f32) : F .bf16 := if k = 0 then hi1 x else if k = 1 then mid1 x else lo1 x

/-- The stores of the three parts of what quantisation leaves of one block. -/
def leftStore (v : View sig .tc .vmem S512x512 .f32) (V : FVec F S512x512 .f32) (X : Vec F S1x512x512 .bf16) (b : Fin 8) (g : Fin 4) :
    List (View.Piece (Elt F) S1536x512 .bf16) :=
  [⟨Rect.unit (s := S1536x512) ![512 * (2 : Fin 3).val + 64 * b.val, 128 * g.val] S64x128.size (in_stack 2 b g),
    shapeCast S64x128 (fun i => lo1 (leftOf v V X b g i)) shapeCasts_S64x128_S64x128⟩,
   ⟨Rect.unit (s := S1536x512) ![512 * (1 : Fin 3).val + 64 * b.val, 128 * g.val] S64x128.size (in_stack 1 b g),
    shapeCast S64x128 (fun i => mid1 (leftOf v V X b g i)) shapeCasts_S64x128_S64x128⟩,
   ⟨Rect.unit (s := S1536x512) ![512 * (0 : Fin 3).val + 64 * b.val, 128 * g.val] S64x128.size (in_stack 0 b g),
    shapeCast S64x128 (fun i => hi1 (leftOf v V X b g i)) shapeCasts_S64x128_S64x128⟩]

/-- Row `y 0` of the stack: part `y 0 / 512` of row `y 0 % 512`. -/
def stackAt (V W : FVec F S512x512 .f32) (y : S1536x512.Idx) : F .bf16 :=
  part1 ((y 0).val / 512) (leftAt V W ⟨(y 0).val % 512, Nat.mod_lt _ (by decide)⟩ (y 1))

/-- A stored part of a block is that part of what quantisation leaves of the tile. -/
theorem stack_piece (v : View sig .tc .vmem S512x512 .f32) (V : FVec F S512x512 .f32) (X : Vec F S1x512x512 .bf16) (k : Fin 3) (b : Fin 8) (g : Fin 4)
    (f : F .f32 → F .bf16) (hf : f = part1 k.val) (x : S64x128.Idx) :
    shapeCast S64x128 (fun i => f (leftOf v V X b g i)) shapeCasts_S64x128_S64x128 x
      = stackAt V (tileW X) ((Rect.unit (s := S1536x512) ![512 * k.val + 64 * b.val, 128 * g.val] S64x128.size (in_stack k b g)).emb x) := by
  subst hf
  have h0 : (x 0).val < 64 := (x 0).isLt
  have h1 : (x 1).val < 128 := (x 1).isLt
  rw [shapeCast_apply _ shapeCasts_S64x128_S64x128 x x rfl]
  unfold stackAt
  have e0 : ((Rect.unit (s := S1536x512) ![512 * k.val + 64 * b.val, 128 * g.val] S64x128.size (in_stack k b g)).emb x 0).val
      = 512 * k.val + 64 * b.val + 1 * (x 0).val := rfl
  have e1 : ((Rect.unit (s := S1536x512) ![512 * k.val + 64 * b.val, 128 * g.val] S64x128.size (in_stack k b g)).emb x 1).val
      = 128 * g.val + 1 * (x 1).val := rfl
  have hb := b.isLt
  congr 1
  · rw [e0]; omega
  · exact leftOf_apply v V X b g x _ _ (by simp only [e0]; omega) (by rw [e1]; omega)

/-- After the stores of all blocks the stack holds the three parts of what quantisation leaves. -/
theorem canon_left (v : View sig .tc .vmem S512x512 .f32) (V : FVec F S512x512 .f32) (X : Vec F S1x512x512 .bf16) (y : S1536x512.Idx) :
    View.canon (rows (leftStore v V X)) y = stackAt V (tileW X) y := by
  refine canon_rows (F := F) (e := .bf16) _ (stackAt V (tileW X)) ?_ y ?_
  · intro b g q hq x
    simp only [leftStore, List.mem_cons, List.not_mem_nil, or_false] at hq
    rcases hq with rfl | rfl | rfl
    · exact stack_piece v V X 2 b g lo1 rfl x
    · exact stack_piece v V X 1 b g mid1 rfl x
    · exact stack_piece v V X 0 b g hi1 rfl x
  · have h0 : (y 0).val < 1536 := (y 0).isLt
    have h1 : (y 1).val < 512 := (y 1).isLt
    have key : ∀ k : Fin 3, (y 0).val / 512 = k.val →
        y ∈ (Rect.unit (s := S1536x512) ![512 * k.val + 64 * ((y 0).val % 512 / 64), 128 * ((y 1).val / 128)] S64x128.size
          (in_stack k ⟨(y 0).val % 512 / 64, by omega⟩ ⟨(y 1).val / 128, by omega⟩)).set := by
      intro k hk
      refine (mem_unit (in_stack k ⟨(y 0).val % 512 / 64, by omega⟩ ⟨(y 1).val / 128, by omega⟩)).2 fun a => ?_
      match a with
      | ⟨0, _⟩ => exact ⟨show 512 * k.val + 64 * ((y 0).val % 512 / 64) ≤ (y 0).val by omega,
          show (y 0).val < 512 * k.val + 64 * ((y 0).val % 512 / 64) + 64 by omega⟩
      | ⟨1, _⟩ => exact ⟨show 128 * ((y 1).val / 128) ≤ (y 1).val by omega, show (y 1).val < 128 * ((y 1).val / 128) + 128 by omega⟩
    refine ⟨⟨(y 0).val % 512 / 64, by omega⟩, ⟨(y 1).val / 128, by omega⟩, ?_⟩
    have : (y 0).val / 512 = 0 ∨ (y 0).val / 512 = 1 ∨ (y 0).val / 512 = 2 := by omega
    rcases this with h | h | h
    · exact ⟨_, List.mem_cons_of_mem _ (List.mem_cons_of_mem _ (List.mem_cons_self ..)), key 0 h⟩
    · exact ⟨_, List.mem_cons_of_mem _ (List.mem_cons_self ..), key 1 h⟩
    · exact ⟨_, List.mem_cons_self .., key 2 h⟩

/-! ## The running squares -/

/-- The place of a block row's squares lies within the accumulated squares. -/
theorem in_squares (b : Fin 8) (a : Fin S512x128.rank) :
    (![64 * b.val, 0] : Fin S512x128.rank → Nat) a + S64x128.size a ≤ S512x128.size a := by
  match a with
  | ⟨0, _⟩ => show 64 * b.val + 64 ≤ 512; omega
  | ⟨1, _⟩ => show 0 + 128 ≤ 128; omega

/-- Block row `b` of the running squares. -/
abbrev sqRect (b : Fin 8) : Rect S512x128 := Rect.unit (s := S512x128) ![64 * b.val, 0] S64x128.size (in_squares b)

/-- Lists of stores to the accumulated squares. -/
abbrev SqList (F : FTy → Type) := List (View.Piece (Elt F) S512x128 .f32)

/-- One block's squares added to `base`. -/
def sqStore (v : View sig .tc .vmem S512x512 .f32) (V : FVec F S512x512 .f32) (X : Vec F S1x512x512 .bf16) (b : Fin 8) (g : Fin 4)
    (base : FVec F S64x128 .f32) : View.Piece (Elt F) S512x128 .f32 :=
  ⟨sqRect b, shapeCast S64x128 (addf base (mulf (leftOf v V X b g) (leftOf v V X b g))) shapeCasts_S64x128_S64x128⟩

/-- One block row: its four blocks' squares added one after another. -/
def sqRow (u : View sig .tc .vmem S512x128 .f32) (v : View sig .tc .vmem S512x512 .f32) (V : FVec F S512x512 .f32) (X : Vec F S1x512x512 .bf16)
    (b : Fin 8) (base : FVec F S64x128 .f32) (L : SqList F) : SqList F :=
  let L0 : SqList F := sqStore v V X b 0 base :: L
  let L1 : SqList F := sqStore v V X b 1 (u.readCov L0 (sqRect b).toLoadRect) :: L0
  let L2 : SqList F := sqStore v V X b 2 (u.readCov L1 (sqRect b).toLoadRect) :: L1
  sqStore v V X b 3 (u.readCov L2 (sqRect b).toLoadRect) :: L2

/-- The list of stores after one more block has added its squares. -/
def sqStep (u : View sig .tc .vmem S512x128 .f32) (v : View sig .tc .vmem S512x512 .f32) (V : FVec F S512x512 .f32) (X : Vec F S1x512x512 .bf16)
    (base : Fin 8 → SqList F → FVec F S64x128 .f32) (b : Fin 8) (L : SqList F) : SqList F := sqRow u v V X b (base b L) L

/-- All block rows, from the list `L` on. -/
def sqAll (u : View sig .tc .vmem S512x128 .f32) (v : View sig .tc .vmem S512x512 .f32) (V : FVec F S512x512 .f32) (X : Vec F S1x512x512 .bf16)
    (base : Fin 8 → SqList F → FVec F S64x128 .f32) (L : SqList F) : SqList F :=
  sqStep u v V X base 7 (sqStep u v V X base 6 (sqStep u v V X base 5 (sqStep u v V X base 4
    (sqStep u v V X base 3 (sqStep u v V X base 2 (sqStep u v V X base 1 (sqStep u v V X base 0 L)))))))

/-- One square: what quantisation leaves at a row, in a column of a group of 128, times itself. -/
def sq1 (V W : FVec F S512x512 .f32) (s : Fin 512) (g : Fin 4) (l : Fin 128) : F .f32 :=
  FloatOps.mulf (leftAt V W s ⟨128 * g.val + l.val, by omega⟩) (leftAt V W s ⟨128 * g.val + l.val, by omega⟩)

/-- A row's four squares at lane `l` added to `z`, in order. -/
def sqSum (V W : FVec F S512x512 .f32) (z : F .f32) (s : Fin 512) (l : Fin 128) : F .f32 :=
  FloatOps.addf (FloatOps.addf (FloatOps.addf (FloatOps.addf z (sq1 V W s 0 l)) (sq1 V W s 1 l)) (sq1 V W s 2 l)) (sq1 V W s 3 l)

/-- A block's store holds what was there before plus the block's squares. -/
theorem sqStore_apply (v : View sig .tc .vmem S512x512 .f32) (V : FVec F S512x512 .f32) (X : Vec F S1x512x512 .bf16) (b : Fin 8) (g : Fin 4)
    (base : FVec F S64x128 .f32) (x : S64x128.Idx) (s : Fin 512) (l : Fin 128) (hs : s.val = 64 * b.val + (x 0).val) (hl : l.val = (x 1).val) :
    (sqStore v V X b g base).2 x = FloatOps.addf (base x) (sq1 V (tileW X) s g l) := by
  have h1 : (x 1).val < 128 := (x 1).isLt
  have hg := g.isLt
  unfold sqStore sq1
  dsimp only
  rw [shapeCast_apply _ shapeCasts_S64x128_S64x128 x x rfl,
    ← leftOf_apply v V X b g x s ⟨128 * g.val + l.val, by omega⟩ hs (by simp only; omega)]
  rfl

/-- Inside block row `b` the row's stores leave the four squares added to the base; -/
theorem canon_sqRow_in (u : View sig .tc .vmem S512x128 .f32) (v : View sig .tc .vmem S512x512 .f32) (V : FVec F S512x512 .f32)
    (X : Vec F S1x512x512 .bf16) (b : Fin 8) (base : FVec F S64x128 .f32) (L : SqList F) (y : S512x128.Idx) (x : S64x128.Idx)
    (h0 : (y 0).val = 64 * b.val + (x 0).val) (h1 : (y 1).val = (x 1).val) :
    View.canon (sqRow u v V X b base L) y = sqSum V (tileW X) (base x) (y 0) (y 1) := by
  have hy : y = (sqRect b).emb x := by
    funext a
    match a with
    | ⟨0, _⟩ => exact Fin.ext (show (y 0).val = 64 * b.val + 1 * (x 0).val by omega)
    | ⟨1, _⟩ => exact Fin.ext (show (y 1).val = 0 + 1 * (x 1).val by omega)
  have hst : ∀ (g : Fin 4) (bs : FVec F S64x128 .f32), (sqStore v V X b g bs).2 x = FloatOps.addf (bs x) (sq1 V (tileW X) (y 0) g (y 1)) :=
    fun g bs => sqStore_apply v V X b g bs x (y 0) (y 1) h0 h1
  have hrd : ∀ (g : Fin 4) (bs : FVec F S64x128 .f32) (L' : SqList F),
      u.readCov (sqStore v V X b g bs :: L') (sqRect b).toLoadRect = (sqStore v V X b g bs).2 :=
    fun g bs L' => View.readCov_cons_toLoadRect u (sqRect b) (sqStore v V X b g bs).2 L'
  have hcn : ∀ (g : Fin 4) (bs : FVec F S64x128 .f32) (L' : SqList F),
      View.canon (sqStore v V X b g bs :: L') y = (sqStore v V X b g bs).2 x := fun g bs L' => by
    rw [hy]; exact View.canon_cons_emb (sqRect b) (sqStore v V X b g bs).2 L' x
  unfold sqRow sqSum
  dsimp only
  rw [hcn, hst, hrd, hst, hrd, hst, hrd, hst]

/-- outside they leave what was there. -/
theorem canon_sqRow_out (u : View sig .tc .vmem S512x128 .f32) (v : View sig .tc .vmem S512x512 .f32) (V : FVec F S512x512 .f32)
    (X : Vec F S1x512x512 .bf16) (b : Fin 8) (base : FVec F S64x128 .f32) (L : SqList F) (y : S512x128.Idx) (h : (y 0).val / 64 ≠ b.val) :
    View.canon (sqRow u v V X b base L) y = View.canon L y := by
  have hn : ∀ (g : Fin 4) (bs : FVec F S64x128 .f32), y ∉ (sqStore v V X b g bs).1.set := by
    intro g bs hm
    have := ((mem_unit (in_squares b)).1 hm) 0
    have h1 : 64 * b.val ≤ (y 0).val := this.1
    have h2 : (y 0).val < 64 * b.val + 64 := this.2
    omega
  unfold sqRow
  dsimp only
  rw [View.canon_cons_of_not_mem _ _ (hn 3 _), View.canon_cons_of_not_mem _ _ (hn 2 _), View.canon_cons_of_not_mem _ _ (hn 1 _),
    View.canon_cons_of_not_mem _ _ (hn 0 _)]

/-- The rows below `n` are done; the others, where they are read back, still hold `z`. -/
def SqInv (V W : FVec F S512x512 .f32) (z : S512x128.Idx → F .f32) (Q : Prop) (n : Nat) (L : SqList F) : Prop :=
  (∀ y : S512x128.Idx, (y 0).val / 64 < n → View.canon L y = sqSum V W (z y) (y 0) (y 1)) ∧
    (Q → ∀ y : S512x128.Idx, n ≤ (y 0).val / 64 → View.canon L y = z y)

/-- One more block adds its squares to its own rows and leaves the other rows. -/
theorem sqStep_inv (u : View sig .tc .vmem S512x128 .f32) (v : View sig .tc .vmem S512x512 .f32) (V : FVec F S512x512 .f32)
    (X : Vec F S1x512x512 .bf16) (base : Fin 8 → SqList F → FVec F S64x128 .f32) (z : S512x128.Idx → F .f32) (Q : Prop)
    (hbase : ∀ b L, SqInv V (tileW X) z Q b.val L → ∀ x, base b L x = z ((sqRect b).emb x)) (b : Fin 8) (n : Nat) (hn : n = b.val) (L : SqList F)
    (h : SqInv V (tileW X) z Q n L) : SqInv V (tileW X) z Q (n + 1) (sqStep u v V X base b L) := by
  subst hn
  have hb := b.isLt
  refine ⟨fun y hy => ?_, fun q y hy => ?_⟩
  · have hy0 : (y 0).val < 512 := (y 0).isLt
    have hy1 : (y 1).val < 128 := (y 1).isLt
    by_cases hc : (y 0).val / 64 = b.val
    · have hx0 : (y 0).val = 64 * b.val + (y 0).val % 64 := by omega
      have e := canon_sqRow_in u v V X b (base b L) L y (ix2 (⟨(y 0).val % 64, Nat.mod_lt _ (by decide)⟩ : Fin 64) (y 1)) hx0 rfl
      refine e.trans ?_
      rw [hbase b L h]
      congr 2
      funext a
      match a with
      | ⟨0, _⟩ => exact Fin.ext (show 64 * b.val + 1 * ((y 0).val % 64) = (y 0).val by omega)
      | ⟨1, _⟩ => exact Fin.ext (show 0 + 1 * (y 1).val = (y 1).val by omega)
    · exact (canon_sqRow_out u v V X b (base b L) L y hc).trans (h.1 y (by omega))
  · exact (canon_sqRow_out u v V X b (base b L) L y (by omega)).trans (h.2 q y (by omega))

/-- After all blocks every row holds what was there before plus its four squares in turn. -/
theorem sqAll_inv (u : View sig .tc .vmem S512x128 .f32) (v : View sig .tc .vmem S512x512 .f32) (V : FVec F S512x512 .f32)
    (X : Vec F S1x512x512 .bf16) (base : Fin 8 → SqList F → FVec F S64x128 .f32) (z : S512x128.Idx → F .f32) (Q : Prop)
    (hbase : ∀ b L, SqInv V (tileW X) z Q b.val L → ∀ x, base b L x = z ((sqRect b).emb x)) (L : SqList F)
    (h : SqInv V (tileW X) z Q 0 L) (y : S512x128.Idx) :
    View.canon (sqAll u v V X base L) y = sqSum V (tileW X) (z y) (y 0) (y 1) := by
  have st := sqStep_inv u v V X base z Q hbase
  have hy0 : (y 0).val < 512 := (y 0).isLt
  exact (st 7 7 rfl _ (st 6 6 rfl _ (st 5 5 rfl _ (st 4 4 rfl _ (st 3 3 rfl _ (st 2 2 rfl _ (st 1 1 rfl _ (st 0 0 rfl _ h)))))))).1 y (by omega)

/-- The squares added to what the scratch held. -/
def sqKept (X6 : Vec F S512x128 .f32) (b : Fin 8) (_ : SqList F) : FVec F S64x128 .f32 := View.ld X6 (sqRect b)

/-- The accumulated squares after a point, from those before it. -/
theorem canon_sqKept (u : View sig .tc .vmem S512x128 .f32) (v : View sig .tc .vmem S512x512 .f32) (V : FVec F S512x512 .f32)
    (X : Vec F S1x512x512 .bf16) (X6 : Vec F S512x128 .f32) (y : S512x128.Idx) :
    View.canon (sqAll u v V X (sqKept X6) []) y = sqSum V (tileW X) (X6 y) (y 0) (y 1) :=
  sqAll_inv u v V X (sqKept X6) X6 False (fun b L _ x => rfl) []
    ⟨fun y hy => absurd hy (Nat.not_lt_zero _), fun q => q.elim⟩ y

/-- The squares added to a scratch zeroed first. -/
def sqFresh (u : View sig .tc .vmem S512x128 .f32) (b : Fin 8) (L : SqList F) : FVec F S64x128 .f32 := u.readCov L (sqRect b).toLoadRect

/-- The store of zeros. -/
def sqZero : SqList F := [⟨Rect.unit (s := S512x128) ![0, 0] S512x128.size inb_S512x128_S512x128_0_0, k0_pay15⟩]

/-- The accumulated squares after a sweep's first point, from zeros. -/
theorem canon_sqFresh (u : View sig .tc .vmem S512x128 .f32) (v : View sig .tc .vmem S512x512 .f32) (V : FVec F S512x512 .f32)
    (X : Vec F S1x512x512 .bf16) (y : S512x128.Idx) :
    View.canon (sqAll u v V X (sqFresh u) sqZero) y = sqSum V (tileW X) (lit 0x00000000#32) (y 0) (y 1) := by
  refine sqAll_inv u v V X (sqFresh u) (fun _ => lit 0x00000000#32) True (fun b L h x => ?_) sqZero
    ⟨fun y hy => absurd hy (Nat.not_lt_zero _), fun _ y _ => ?_⟩ y
  · unfold sqFresh
    rw [View.readCov_eq_canon']
    have hx : (x 0).val < 64 := (x 0).isLt
    refine h.2 trivial _ ?_
    have e : (((sqRect b).toLoadRect.idx x) 0).val = 64 * b.val + 1 * (x 0).val := rfl
    rw [e]; omega
  · unfold sqZero
    rw [View.canon_unit_zero (by funext a; match a with | ⟨0, _⟩ => rfl | ⟨1, _⟩ => rfl)]
    unfold k0_pay15
    dsimp only
    rw [shapeCast_apply _ shapeCasts_S512x128_S512x128 y y rfl]
    rfl

end Cert.KernelIdeal.Block
-- ==== Proof.Point.lean ====
/-
  What one grid point computes, over the loaded arrays.

  The first point of a sweep splits the left factor into parts and clears its accumulators; every point forms its tile,
  quantises it and adds to the accumulators; the last point of a sweep also finishes the results.
-/
module

public import proofs.«01_k».proof.Proof.Lists

@[expose] public section

set_option maxRecDepth 16384

noncomputable section

namespace Cert.KernelIdeal.Block

open Idealize.ShloMosaic Idealize.ShloMosaic.TcCoe Idealize.SL.Sem
open Cert.KernelIdeal Cert.KernelIdeal.Gen Cert.Nf4

variable {F : FTy → Type} [FloatOps F]

/-! ## Loads of whole blocks -/

/-- The load of the whole block of weights. -/
abbrev wholeW (X : Vec F S1x512x512 .bf16) : Vec F S1x512x512 .bf16 :=
  View.ld X (Rect.unit (s := S1x512x512) ![0, 0, 0] S1x512x512.size inb_S1x512x512_S1x512x512_0_0_0)

/-- The load of the whole block of a factor. -/
abbrev wholeB (X : Vec F S1x512x640 .f32) : Vec F S1x512x640 .f32 :=
  View.ld X (Rect.unit (s := S1x512x640) ![0, 0, 0] S1x512x640.size inb_S1x512x640_S1x512x640_0_0_0)

/-- The load of the whole block of weights is the block. -/
theorem wholeW_eq (X : Vec F S1x512x512 .bf16) : wholeW X = X :=
  View.ld_unit_lit _ X (by intro a; match a with | ⟨0, _⟩ => rfl | ⟨1, _⟩ => rfl | ⟨2, _⟩ => rfl)

/-- The load of the whole block of a factor is the block. -/
theorem wholeB_eq (X : Vec F S1x512x640 .f32) : wholeB X = X :=
  View.ld_unit_lit _ X (by intro a; match a with | ⟨0, _⟩ => rfl | ⟨1, _⟩ => rfl | ⟨2, _⟩ => rfl)

/-! ## Loads over store lists -/

/-- A load of what was stored last reads the stored value. -/
theorem ld_top {s : Shape} {e : EltTy} (r : Rect s) (w) (L : List (View.Piece (Elt F) s e)) :
    View.ld (View.canon ((⟨r, w⟩ : View.Piece (Elt F) s e) :: L)) r = w := by
  funext x
  exact View.canon_cons_emb r w L x

/-- A load apart from what was stored last reads from the stores before. -/
theorem ld_below {s : Shape} {e : EltTy} (r r1 : Rect s) (w) (L : List (View.Piece (Elt F) s e)) (h : Disjoint r1.set r.set) :
    View.ld (View.canon ((⟨r1, w⟩ : View.Piece (Elt F) s e) :: L)) r = View.ld (View.canon L) r := by
  funext x
  exact View.canon_cons_of_not_mem _ _ (Finset.disjoint_right.mp h (r.toLoadRect.idx_mem x))

/-- A load from a list of stores reads what the list leaves. -/
theorem readCov_ld {s : Shape} {e : EltTy} (v : View sig .tc .vmem s e) (L : List (View.Piece (Elt F) s e)) (r : Rect s) :
    v.readCov L r.toLoadRect = View.ld (View.canon L) r := View.readCov_eq_canon' v L _

/-- Two blocks are apart where on some axis one ends before the other begins. -/
theorem apart {s : Shape} {off size off' size' : Fin s.rank → Nat} {inb inb'} (a : Fin s.rank)
    (h : off' a + size' a ≤ off a ∨ off a + size a ≤ off' a) :
    Disjoint (Rect.unit (s := s) off size inb).set (Rect.unit (s := s) off' size' inb').set :=
  Rect.unit_disjoint a h.symm

/-! ## The right factor's parts -/

/-- The stores of the right factor's parts, transposed, stacked. -/
def rightList (X2 : Vec F S1x512x640 .f32) : List (View.Piece (Elt F) S1920x512 .bf16) :=
  [⟨Rect.unit (s := S1920x512) ![1280, 0] S640x512.size inb_S1920x512_S640x512_1280_0, k0_pay22 (wholeB X2)⟩,
   ⟨Rect.unit (s := S1920x512) ![640, 0] S640x512.size inb_S1920x512_S640x512_640_0, k0_pay21 (wholeB X2)⟩,
   ⟨Rect.unit (s := S1920x512) ![0, 0] S640x512.size inb_S1920x512_S640x512_0_0, k0_pay20 (wholeB X2)⟩]

/-- The load of the right factor's leading part. -/
def rightHi (v : View sig .tc .vmem S1920x512 .bf16) (X2 : Vec F S1x512x640 .f32) : Vec F S640x512 .bf16 :=
  v.readCov (rightList X2) (Rect.unit (s := S1920x512) ![0, 0] S640x512.size inb_S1920x512_S640x512_0_0).toLoadRect
/-- The load of the right factor's second part. -/
def rightMid (v : View sig .tc .vmem S1920x512 .bf16) (X2 : Vec F S1x512x640 .f32) : Vec F S640x512 .bf16 :=
  v.readCov (rightList X2) (Rect.unit (s := S1920x512) ![640, 0] S640x512.size inb_S1920x512_S640x512_640_0).toLoadRect
/-- The load of the right factor's third part. -/
def rightLo (v : View sig .tc .vmem S1920x512 .bf16) (X2 : Vec F S1x512x640 .f32) : Vec F S640x512 .bf16 :=
  v.readCov (rightList X2) (Rect.unit (s := S1920x512) ![1280, 0] S640x512.size inb_S1920x512_S640x512_1280_0).toLoadRect

/-- The load of the right factor's third part is the part as computed. -/
theorem rightLo_eq (v : View sig .tc .vmem S1920x512 .bf16) (X2 : Vec F S1x512x640 .f32) : rightLo v X2 = k0_pay22 X2 := by
  unfold rightLo rightList
  rw [View.readCov_cons_toLoadRect, wholeB_eq]

/-- The load of the right factor's second part is the part as computed. -/
theorem rightMid_eq (v : View sig .tc .vmem S1920x512 .bf16) (X2 : Vec F S1x512x640 .f32) : rightMid v X2 = k0_pay21 X2 := by
  unfold rightMid rightList
  rw [wholeB_eq, readCov_ld, ld_below _ _ _ _ (apart 0 (Or.inl (Nat.le_of_ble_eq_true rfl))), ld_top]

/-- The load of the right factor's leading part is the part as computed. -/
theorem rightHi_eq (v : View sig .tc .vmem S1920x512 .bf16) (X2 : Vec F S1x512x640 .f32) : rightHi v X2 = k0_pay20 X2 := by
  unfold rightHi rightList
  rw [wholeB_eq, readCov_ld, ld_below _ _ _ _ (apart 0 (Or.inl (Nat.le_of_ble_eq_true rfl))),
    ld_below _ _ _ _ (apart 0 (Or.inl (Nat.le_of_ble_eq_true rfl))), ld_top]

/-! ## The left factor's parts -/

/-- The stores of the left factor's parts, side by side. -/
def leftList (X1 : Vec F S1x512x640 .f32) : List (View.Piece (Elt F) S512x1920 .bf16) :=
  [⟨Rect.unit (s := S512x1920) ![0, 1280] S512x640.size inb_S512x1920_S512x640_0_1280, k0_pay12 (wholeB X1)⟩,
   ⟨Rect.unit (s := S512x1920) ![0, 640] S512x640.size inb_S512x1920_S512x640_0_640, k0_pay11 (wholeB X1)⟩,
   ⟨Rect.unit (s := S512x1920) ![0, 0] S512x640.size inb_S512x1920_S512x640_0_0, k0_pay10 (wholeB X1)⟩]

/-- The stored parts, as one array. -/
def leftParts (X1 : Vec F S1x512x640 .f32) : Vec F S512x1920 .bf16 := View.canon (leftList X1)

/-- The columns of one part. -/
def colsHi (X : Vec F S512x1920 .bf16) : Vec F S512x640 .bf16 :=
  View.ld X (Rect.unit (s := S512x1920) ![0, 0] S512x640.size inb_S512x1920_S512x640_0_0)
/-- The second 640 columns of the left factor's parts. -/
def colsMid (X : Vec F S512x1920 .bf16) : Vec F S512x640 .bf16 :=
  View.ld X (Rect.unit (s := S512x1920) ![0, 640] S512x640.size inb_S512x1920_S512x640_0_640)
/-- The third 640 columns of the left factor's parts. -/
def colsLo (X : Vec F S512x1920 .bf16) : Vec F S512x640 .bf16 :=
  View.ld X (Rect.unit (s := S512x1920) ![0, 1280] S512x640.size inb_S512x1920_S512x640_0_1280)

/-- The third 640 columns hold the left factor's third part. -/
theorem colsLo_leftParts (X1 : Vec F S1x512x640 .f32) : colsLo (leftParts X1) = k0_pay12 X1 := by
  unfold colsLo leftParts leftList
  rw [wholeB_eq, ld_top]

/-- The second 640 columns hold the left factor's second part. -/
theorem colsMid_leftParts (X1 : Vec F S1x512x640 .f32) : colsMid (leftParts X1) = k0_pay11 X1 := by
  unfold colsMid leftParts leftList
  rw [wholeB_eq, ld_below _ _ _ _ (apart 1 (Or.inl (Nat.le_of_ble_eq_true rfl))), ld_top]

/-- The first 640 columns hold the left factor's leading part. -/
theorem colsHi_leftParts (X1 : Vec F S1x512x640 .f32) : colsHi (leftParts X1) = k0_pay10 X1 := by
  unfold colsHi leftParts leftList
  rw [wholeB_eq, ld_below _ _ _ _ (apart 1 (Or.inl (Nat.le_of_ble_eq_true rfl))),
    ld_below _ _ _ _ (apart 1 (Or.inl (Nat.le_of_ble_eq_true rfl))), ld_top]

/-- A load of one part's columns out of the stores is the columns of the stored parts. -/
theorem readCov_left (v : View sig .tc .vmem S512x1920 .bf16) (X1 : Vec F S1x512x640 .f32) (r : Rect S512x1920) :
    v.readCov (leftList X1) r.toLoadRect = View.ld (leftParts X1) r := View.readCov_eq_canon' v _ _

/-! ## The tile -/

/-- The weights less the product of the factors, the product summed over the parts. -/
def tileOf (ahi amid alo : Vec F S512x640 .bf16) (bhi bmid blo : Vec F S640x512 .bf16) (X0 : Vec F S1x512x512 .bf16) : FVec F S512x512 .f32 :=
  k0_pay24 ahi amid bhi bmid blo (k0_pay23 alo bhi) (constant S512x512 .f32 0x00000000#32) X0

/-- A point's tile: `A` the stored parts of the left factor. -/
def tile (A : Vec F S512x1920 .bf16) (X0 : Vec F S1x512x512 .bf16) (X2 : Vec F S1x512x640 .f32) : FVec F S512x512 .f32 :=
  tileOf (colsHi A) (colsMid A) (colsLo A) (k0_pay20 X2) (k0_pay21 X2) (k0_pay22 X2) X0

/-- The tile as the point's loads give it. -/
def tileRaw (A : Vec F S512x1920 .bf16) (v : View sig .tc .vmem S1920x512 .bf16) (X0 : Vec F S1x512x512 .bf16) (X2 : Vec F S1x512x640 .f32) :
    FVec F S512x512 .f32 :=
  tileOf (colsHi A) (colsMid A) (colsLo A) (rightHi v X2) (rightMid v X2) (rightLo v X2) (wholeW X0)

/-- The tile as a later point computes it, from the kept parts of the left factor. -/
theorem tileRaw_eq (A : Vec F S512x1920 .bf16) (v : View sig .tc .vmem S1920x512 .bf16) (X0 : Vec F S1x512x512 .bf16) (X2 : Vec F S1x512x640 .f32) :
    tileRaw A v X0 X2 = tile A X0 X2 := by
  unfold tileRaw tile
  rw [rightHi_eq, rightMid_eq, rightLo_eq, wholeW_eq]

/-- The first point's tile as its loads give it. -/
def tileFirst (u : View sig .tc .vmem S512x1920 .bf16) (v : View sig .tc .vmem S1920x512 .bf16) (X0 : Vec F S1x512x512 .bf16)
    (X1 X2 : Vec F S1x512x640 .f32) : FVec F S512x512 .f32 :=
  tileOf (u.readCov (leftList X1) (Rect.unit (s := S512x1920) ![0, 0] S512x640.size inb_S512x1920_S512x640_0_0).toLoadRect)
    (u.readCov (leftList X1) (Rect.unit (s := S512x1920) ![0, 640] S512x640.size inb_S512x1920_S512x640_0_640).toLoadRect)
    (u.readCov (leftList X1) (Rect.unit (s := S512x1920) ![0, 1280] S512x640.size inb_S512x1920_S512x640_0_1280).toLoadRect)
    (rightHi v X2) (rightMid v X2) (rightLo v X2) (wholeW X0)

/-- The tile as a sweep's first point computes it, from the parts it has just stored. -/
theorem tileFirst_eq (u : View sig .tc .vmem S512x1920 .bf16) (v : View sig .tc .vmem S1920x512 .bf16) (X0 : Vec F S1x512x512 .bf16)
    (X1 X2 : Vec F S1x512x640 .f32) : tileFirst u v X0 X1 X2 = tile (leftParts X1) X0 X2 := by
  unfold tileFirst
  rw [readCov_left u X1 (Rect.unit (s := S512x1920) ![0, 0] S512x640.size inb_S512x1920_S512x640_0_0),
    readCov_left u X1 (Rect.unit (s := S512x1920) ![0, 640] S512x640.size inb_S512x1920_S512x640_0_640),
    readCov_left u X1 (Rect.unit (s := S512x1920) ![0, 1280] S512x640.size inb_S512x1920_S512x640_0_1280)]
  have h := tileRaw_eq (leftParts X1) v X0 X2
  unfold tileRaw colsHi colsMid colsLo at h
  exact h

/-! ## The accumulators -/

/-- Each third of the stack of parts lies within the stack. -/
theorem in_third (k : Fin 3) (a : Fin S1536x512.rank) :
    (![512 * k.val, 0] : Fin S1536x512.rank → Nat) a + S512x512.size a ≤ S1536x512.size a := by
  match a with
  | ⟨0, _⟩ => show 512 * k.val + 512 ≤ 1536; omega
  | ⟨1, _⟩ => show 0 + 512 ≤ 512; omega

/-- One part of the residual, loaded back off the stack. -/
def thirdRaw (w : View sig .tc .vmem S1536x512 .bf16) (v : View sig .tc .vmem S512x512 .f32) (V : FVec F S512x512 .f32)
    (X0 : Vec F S1x512x512 .bf16) (k : Fin 3) : Vec F S512x512 .bf16 :=
  w.readCov (rows (leftStore v V X0)) (Rect.unit (s := S1536x512) ![512 * k.val, 0] S512x512.size (in_third k)).toLoadRect

/-- One part of the residual. -/
def third (V : FVec F S512x512 .f32) (X0 : Vec F S1x512x512 .bf16) (k : Nat) : Vec F S512x512 .bf16 :=
  fun x => part1 k (leftAt V (tileW X0) (x 0) (x 1))

/-- A load of one third of the stack reads that part of what quantisation leaves. -/
theorem thirdRaw_eq (w : View sig .tc .vmem S1536x512 .bf16) (v : View sig .tc .vmem S512x512 .f32) (V : FVec F S512x512 .f32)
    (X0 : Vec F S1x512x512 .bf16) (k : Fin 3) : thirdRaw w v V X0 k = third V X0 k.val := by
  unfold thirdRaw
  rw [View.readCov_eq_canon']
  funext x
  have h0 : (x 0).val < 512 := (x 0).isLt
  refine (canon_left v V X0 _).trans ?_
  unfold stackAt third
  have e : (((Rect.unit (s := S1536x512) ![512 * k.val, 0] S512x512.size (in_third k)).toLoadRect.idx x) 0).val
      = 512 * k.val + 1 * (x 0).val := rfl
  have e1 : (((Rect.unit (s := S1536x512) ![512 * k.val, 0] S512x512.size (in_third k)).toLoadRect.idx x) 1).val
      = 0 + 1 * (x 1).val := rfl
  congr 1
  · rw [e]; omega
  · congr 1
    · exact Fin.ext (by show _ % 512 = (x 0).val; rw [e]; omega)
    · exact Fin.ext (by rw [e1]; omega)

/-- The factor's accumulator after a point, before it `acc`. -/
def accStep (V : FVec F S512x512 .f32) (X0 : Vec F S1x512x512 .bf16) (X2 : Vec F S1x512x640 .f32) (acc : Vec F S640x512 .f32) : FVec F S640x512 .f32 :=
  k0_pay731 (k0_pay20 X2) (k0_pay21 X2) (k0_pay22 X2) (third V X0 0) (third V X0 1) (third V X0 2) acc

/-- The Gram accumulator after a point, before it `acc`. -/
def gramStep (X2 : Vec F S1x512x640 .f32) (acc : Vec F S640x640 .f32) : FVec F S640x640 .f32 :=
  k0_pay1 (k0_pay20 X2) (k0_pay21 X2) acc (k0_pay732 (k0_pay21 X2)) (k0_pay733 (k0_pay20 X2) (k0_pay22 X2)) (constant S640x640 .f32 0x00000000#32)

/-- The running squares after a point, before it `z`. -/
def sqBlock (V : FVec F S512x512 .f32) (X0 : Vec F S1x512x512 .bf16) (z : Vec F S512x128 .f32) : Vec F S512x128 .f32 :=
  fun y => sqSum V (tileW X0) (z y) (y 0) (y 1)

/-- The accumulator of the new left factor after a point, in the point's own loads. -/
def accRaw (v10 : View sig .tc .vmem S1920x512 .bf16) (v11 : View sig .tc .vmem S512x512 .f32) (v12 : View sig .tc .vmem S1536x512 .bf16)
    (V : FVec F S512x512 .f32) (X0 : Vec F S1x512x512 .bf16) (X2 : Vec F S1x512x640 .f32) (acc : Vec F S640x512 .f32) : FVec F S640x512 .f32 :=
  k0_pay731 (rightHi v10 X2) (rightMid v10 X2) (rightLo v10 X2) (thirdRaw v12 v11 V X0 0) (thirdRaw v12 v11 V X0 1) (thirdRaw v12 v11 V X0 2) acc

/-- The accumulator of the new left factor after a point, from the tile and the right factor. -/
theorem accRaw_eq (v10 : View sig .tc .vmem S1920x512 .bf16) (v11 : View sig .tc .vmem S512x512 .f32) (v12 : View sig .tc .vmem S1536x512 .bf16)
    (V : FVec F S512x512 .f32) (X0 : Vec F S1x512x512 .bf16) (X2 : Vec F S1x512x640 .f32) (acc : Vec F S640x512 .f32) :
    accRaw v10 v11 v12 V X0 X2 acc = accStep V X0 X2 acc := by
  unfold accRaw accStep
  rw [rightHi_eq, rightMid_eq, rightLo_eq, thirdRaw_eq, thirdRaw_eq, thirdRaw_eq]
  rfl

/-- The Gram accumulator after a point, in the point's own loads. -/
def gramRaw (v10 : View sig .tc .vmem S1920x512 .bf16) (X2 : Vec F S1x512x640 .f32) (acc : Vec F S640x640 .f32) : FVec F S640x640 .f32 :=
  k0_pay1 (rightHi v10 X2) (rightMid v10 X2) acc (k0_pay732 (rightMid v10 X2)) (k0_pay733 (rightHi v10 X2) (rightLo v10 X2))
    (constant S640x640 .f32 0x00000000#32)

/-- The Gram accumulator after a point, from the right factor. -/
theorem gramRaw_eq (v10 : View sig .tc .vmem S1920x512 .bf16) (X2 : Vec F S1x512x640 .f32) (acc : Vec F S640x640 .f32) :
    gramRaw v10 X2 acc = gramStep X2 acc := by
  unfold gramRaw gramStep
  rw [rightHi_eq, rightMid_eq, rightLo_eq]

/-! ## Accumulators stored whole -/

/-- The whole accumulator of the new left factor. -/
abbrev accRect : Rect S640x512 := Rect.unit (s := S640x512) ![0, 0] S640x512.size inb_S640x512_S640x512_0_0
/-- The whole Gram accumulator. -/
abbrev gramRect : Rect S640x640 := Rect.unit (s := S640x640) ![0, 0] S640x640.size inb_S640x640_S640x640_0_0

/-- A store of the whole accumulator leaves the stored value. -/
theorem canon_acc (w : Vec F S640x512 .f32) (L : List (View.Piece (Elt F) S640x512 .f32)) :
    View.canon ((⟨accRect, w⟩ : View.Piece (Elt F) S640x512 .f32) :: L) = w :=
  View.canon_cons_unit_zero (by funext a; match a with | ⟨0, _⟩ => rfl | ⟨1, _⟩ => rfl) _ w L

/-- A store of the whole Gram accumulator leaves the stored value. -/
theorem canon_gram (w : Vec F S640x640 .f32) (L : List (View.Piece (Elt F) S640x640 .f32)) :
    View.canon ((⟨gramRect, w⟩ : View.Piece (Elt F) S640x640 .f32) :: L) = w :=
  View.canon_cons_unit_zero (by funext a; match a with | ⟨0, _⟩ => rfl | ⟨1, _⟩ => rfl) _ w L

/-- A load of the whole accumulator reads it. -/
theorem ld_acc (X : Vec F S640x512 .f32) : View.ld X accRect = X :=
  View.ld_unit_lit _ X (by intro a; match a with | ⟨0, _⟩ => rfl | ⟨1, _⟩ => rfl)

/-- A load of the whole Gram accumulator reads it. -/
theorem ld_gram (X : Vec F S640x640 .f32) : View.ld X gramRect = X :=
  View.ld_unit_lit _ X (by intro a; match a with | ⟨0, _⟩ => rfl | ⟨1, _⟩ => rfl)

/-- The cleared accumulators. -/
def zeroAcc : List (View.Piece (Elt F) S640x512 .f32) := [⟨accRect, k0_pay13⟩]
/-- The store of zeros to the Gram accumulator. -/
def zeroGram : List (View.Piece (Elt F) S640x640 .f32) := [⟨gramRect, k0_pay14⟩]

/-- The whole array of accumulated squares. -/
abbrev sqWhole : Rect S512x128 := Rect.unit (s := S512x128) ![0, 0] S512x128.size inb_S512x128_S512x128_0_0

/-- A load of all accumulated squares reads them. -/
theorem ld_sq (X : Vec F S512x128 .f32) : View.ld X sqWhole = X :=
  View.ld_unit_lit _ X (by intro a; match a with | ⟨0, _⟩ => rfl | ⟨1, _⟩ => rfl)

/-- The stores of all squares leave the accumulated squares after the point. -/
theorem canon_squares (u : View sig .tc .vmem S512x128 .f32) (v : View sig .tc .vmem S512x512 .f32) (V : FVec F S512x512 .f32)
    (X : Vec F S1x512x512 .bf16) (X6 : Vec F S512x128 .f32) :
    View.canon (sqAll u v V X (sqKept X6) []) = sqBlock V X X6 := by
  funext y
  exact canon_sqKept u v V X X6 y

/-- A store of the whole new left factor leaves the stored value. -/
theorem canon_factor (w : Vec F S1x512x640 .f32) (L : List (View.Piece (Elt F) S1x512x640 .f32)) :
    View.canon ((⟨Rect.unit (s := S1x512x640) ![0, 0, 0] S1x512x640.size inb_S1x512x640_S1x512x640_0_0_0, w⟩ : View.Piece (Elt F) S1x512x640 .f32) :: L) = w :=
  View.canon_cons_unit_zero (by funext a; match a with | ⟨0, _⟩ => rfl | ⟨1, _⟩ => rfl | ⟨2, _⟩ => rfl) _ w L

/-- A store of all squared lengths leaves the stored value. -/
theorem canon_norm (w : Vec F S1x512x1 .f32) (L : List (View.Piece (Elt F) S1x512x1 .f32)) :
    View.canon ((⟨Rect.unit (s := S1x512x1) ![0, 0, 0] S1x512x1.size inb_S1x512x1_S1x512x1_0_0_0, w⟩ : View.Piece (Elt F) S1x512x1 .f32) :: L) = w :=
  View.canon_cons_unit_zero (by funext a; match a with | ⟨0, _⟩ => rfl | ⟨1, _⟩ => rfl | ⟨2, _⟩ => rfl) _ w L

/-- The scales as a block. -/
def scaleBlock (V : FVec F S512x512 .f32) : Vec F S1x8x512 .f32 := fun y => scaleAt V (y 1) (y 2)

end Cert.KernelIdeal.Block
-- ==== Proof.Spec.lean ====
/-
  The quantisation in plain mathematics, over the extended reals.

  Per batch: the weights less the product of the two factors are cut into groups of 64 rows; each column of a group is
  scaled by its largest magnitude and coded by the sixteen-entry table; what the coded weights leave is multiplied by the
  right factor to give the new left factor, and the squared length of what that leaves is summed per row.
-/
module

public import proofs.«01_k».proof.Proof.Nf4

@[expose] public section

noncomputable section

namespace Cert.Nf4

open Idealize.ShloMosaic

/-! ## Numbers that are not infinite -/

/-- A number that is not infinite. -/
def Fin' (x : EReal) : Prop := ∃ r : ℝ, x = (r : EReal)

/-- A difference of finite numbers is finite. -/
theorem Fin'.sub {x y : EReal} (hx : Fin' x) (hy : Fin' y) : Fin' (x - y) := by
  obtain ⟨r, rfl⟩ := hx; obtain ⟨s, rfl⟩ := hy
  exact ⟨r - s, (EReal.coe_sub r s).symm⟩

/-- A sum of two finite numbers is finite. -/
theorem Fin'.add {x y : EReal} (hx : Fin' x) (hy : Fin' y) : Fin' (x + y) := by
  obtain ⟨r, rfl⟩ := hx; obtain ⟨s, rfl⟩ := hy
  exact ⟨r + s, (EReal.coe_add r s).symm⟩

/-- A product of finite numbers is finite. -/
theorem Fin'.mul {x y : EReal} (hx : Fin' x) (hy : Fin' y) : Fin' (x * y) := by
  obtain ⟨r, rfl⟩ := hx; obtain ⟨s, rfl⟩ := hy
  exact ⟨r * s, (EReal.coe_mul r s).symm⟩

/-- A sum of reals may be taken over the reals or over the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

/-- A sum of finite numbers is finite. -/
theorem Fin'.sum {ι : Type} (s : Finset ι) (f : ι → EReal) (h : ∀ i ∈ s, Fin' (f i)) : Fin' (∑ i ∈ s, f i) := by
  classical
  induction s using Finset.induction_on with
  | empty => exact ⟨0, by simp⟩
  | insert a s ha ih =>
    rw [Finset.sum_insert ha]
    exact (h a (Finset.mem_insert_self a s)).add (ih fun i hi => h i (Finset.mem_insert_of_mem hi))

/-- A number strictly between the two infinities is finite. -/
theorem Fin'.of_bounds {x : EReal} (h : ⊥ < x) (h' : x < ⊤) : Fin' x :=
  ⟨x.toReal, (EReal.coe_toReal h'.ne h.ne').symm⟩

/-- A finite number is below the top element. -/
theorem Fin'.lt_top {x : EReal} (h : Fin' x) : x < ⊤ := by obtain ⟨r, rfl⟩ := h; exact EReal.coe_lt_top r
/-- A finite number is above the bottom element. -/
theorem Fin'.bot_lt {x : EReal} (h : Fin' x) : ⊥ < x := by obtain ⟨r, rfl⟩ := h; exact EReal.bot_lt_coe r

/-- A finite number less itself is zero. -/
theorem Fin'.sub_self {x : EReal} (h : Fin' x) : x - x = 0 := by
  obtain ⟨r, rfl⟩ := h
  rw [← EReal.coe_sub, _root_.sub_self]; rfl

/-! ## The mathematics -/

/-- The largest magnitude of a group's column. -/
def colSup (f : Fin 64 → EReal) : EReal :=
  Finset.fold max (Ideal.ofBits .f32 0xFF800000#32) (fun i => max (f i) (-(f i))) Finset.univ

/-- The column's scale: its largest magnitude, or one where that is zero. -/
def scaleOf (f : Fin 64 → EReal) : EReal := if colSup f = 0 then 1 else colSup f

variable (w : Fin 2 → Fin 512 → Fin 18432 → EReal) (a : Fin 2 → Fin 512 → Fin 640 → EReal) (b : Fin 2 → Fin 18432 → Fin 640 → EReal)

/-- The weights less the product of the factors. -/
def diff (p : Fin 2) (s : Fin 512) (d : Fin 18432) : EReal := w p s d - ∑ k : Fin 640, a p s k * b p d k

/-- Row `i` of group `g`. -/
abbrev rowOf (g : Fin 8) (i : Fin 64) : Fin 512 := ⟨64 * g.val + i.val, by omega⟩

/-- The group's scale at column `d`. -/
def sc (p : Fin 2) (g : Fin 8) (d : Fin 18432) : EReal := scaleOf fun i => diff w a b p (rowOf g i) d

/-- The row group of a row. -/
abbrev groupOf (s : Fin 512) : Fin 8 := ⟨s.val / 64, by omega⟩

/-- The scaled element. -/
def scl (p : Fin 2) (s : Fin 512) (d : Fin 18432) : EReal := Ideal.div (diff w a b p s d) (sc w a b p (groupOf s) d)

/-- Two rows' codes in one byte. -/
def byt (p : Fin 2) (i : Fin 256) (d : Fin 18432) : BitVec 8 :=
  byteOf (code (F := Ideal) (scl w a b p ⟨2 * i.val, by omega⟩ d)) (code (F := Ideal) (scl w a b p ⟨2 * i.val + 1, by omega⟩ d))

/-- What the coded weights leave. -/
def rem (p : Fin 2) (s : Fin 512) (d : Fin 18432) : EReal :=
  w p s d - table (F := Ideal) (scl w a b p s d) * sc w a b p (groupOf s) d

/-- The new left factor. -/
def fac (p : Fin 2) (s : Fin 512) (k : Fin 640) : EReal := ∑ d : Fin 18432, rem w a b p s d * b p d k

/-- What the new factor leaves. -/
def rest (p : Fin 2) (s : Fin 512) (d : Fin 18432) : EReal := rem w a b p s d - ∑ k : Fin 640, fac w a b p s k * b p d k

/-- A row's squared length of what is left. -/
def nrm (p : Fin 2) (s : Fin 512) : EReal := ∑ d : Fin 18432, rest w a b p s d * rest w a b p s d

/-! ## Finite inputs give finite results -/

/-- The bits of negative infinity read as the bottom element. -/
theorem ofBits_bot : Ideal.ofBits .f32 0xFF800000#32 = (⊥ : EReal) := by
  simp [Ideal.ofBits, Ideal.ieee]

/-- The greatest absolute value of finite numbers is finite. -/
theorem colSup_fin (f : Fin 64 → EReal) (h : ∀ i, Fin' (f i)) : Fin' (colSup f) := by
  refine Fin'.of_bounds ?_ ?_
  · refine (Finset.lt_fold_max _).2 (Or.inr ⟨0, Finset.mem_univ _, lt_max_of_lt_left (h 0).bot_lt⟩)
  · refine (Finset.fold_max_lt _).2 ⟨by rw [ofBits_bot]; exact bot_lt_top, fun i _ => max_lt (h i).lt_top ?_⟩
    obtain ⟨r, hr⟩ := h i
    rw [hr, ← EReal.coe_neg]; exact EReal.coe_lt_top _

/-- The scale of finite numbers is finite. -/
theorem scaleOf_fin (f : Fin 64 → EReal) (h : ∀ i, Fin' (f i)) : Fin' (scaleOf f) := by
  unfold scaleOf
  split
  · exact ⟨1, rfl⟩
  · exact colSup_fin f h

variable (hw : ∀ p s d, Fin' (w p s d)) (ha : ∀ p s k, Fin' (a p s k)) (hb : ∀ p d k, Fin' (b p d k))
include hw ha hb

/-- What is quantised is finite where the arguments are. -/
theorem diff_fin (p : Fin 2) (s : Fin 512) (d : Fin 18432) : Fin' (diff w a b p s d) :=
  (hw p s d).sub (Fin'.sum _ _ fun k _ => (ha p s k).mul (hb p d k))

/-- What quantisation leaves is finite where the arguments are. -/
theorem rem_fin (p : Fin 2) (s : Fin 512) (d : Fin 18432) : Fin' (rem w a b p s d) :=
  (hw p s d).sub (Fin'.mul (tableOf_real _ _ _ _) (scaleOf_fin _ fun i => diff_fin w a b hw ha hb _ _ _))

/-- The new left factor is finite where the arguments are. -/
theorem fac_fin (p : Fin 2) (s : Fin 512) (k : Fin 640) : Fin' (fac w a b p s k) :=
  Fin'.sum _ _ fun d _ => (rem_fin w a b hw ha hb p s d).mul (hb p d k)

omit hw ha hb

/-- A row's squared length through the Gram matrix, over the reals: the squares of what was coded away, less the part
    the new factor explains. -/
theorem norm_gram_real {ι κ : Type} [Fintype ι] [Fintype κ] (r : ι → ℝ) (B : ι → κ → ℝ) (A : κ → ℝ) (hA : ∀ k, A k = ∑ d, r d * B d k) :
    (∑ d, r d * r d) + (∑ k, A k * ((∑ l, A l * (∑ d, B d l * B d k)) - 2 * A k))
      = ∑ d, (r d - ∑ k, A k * B d k) * (r d - ∑ k, A k * B d k) := by
  have e1 : ∀ d, (r d - ∑ k, A k * B d k) * (r d - ∑ k, A k * B d k)
      = r d * r d + (∑ k, A k * B d k) * (∑ k, A k * B d k) - 2 * (r d * ∑ k, A k * B d k) := fun d => by ring
  have e2 : ∑ d, (∑ k, A k * B d k) * (∑ k, A k * B d k) = ∑ k, A k * ∑ l, A l * ∑ d, B d l * B d k := by
    simp only [Finset.sum_mul, Finset.mul_sum]
    rw [Finset.sum_comm]
    refine Finset.sum_congr rfl fun k _ => ?_
    rw [Finset.sum_comm]
    refine Finset.sum_congr rfl fun l _ => Finset.sum_congr rfl fun d _ => by ring
  have e3 : ∑ d, r d * ∑ k, A k * B d k = ∑ k, A k * A k := by
    have : ∀ k, A k * A k = ∑ d, r d * (A k * B d k) := fun k => by
      conv_lhs => rw [hA k, ← hA k]
      rw [show A k * A k = A k * ∑ d, r d * B d k by rw [← hA k], Finset.mul_sum]
      exact Finset.sum_congr rfl fun d _ => by ring
    simp only [Finset.mul_sum, this]
    exact Finset.sum_comm
  simp only [e1, Finset.sum_sub_distrib, Finset.sum_add_distrib, ← Finset.mul_sum, e2, e3]
  have e4 : ∀ k, A k * ((∑ l, A l * (∑ d, B d l * B d k)) - 2 * A k) = A k * (∑ l, A l * (∑ d, B d l * B d k)) - 2 * (A k * A k) := fun k => by ring
  simp only [e4, Finset.sum_sub_distrib, ← Finset.mul_sum]
  ring

/-- The same over the extended reals, for finite entries. -/
theorem norm_gram {ι κ : Type} [Fintype ι] [Fintype κ] (r : ι → EReal) (B : ι → κ → EReal) (A : κ → EReal) (hr : ∀ d, Fin' (r d))
    (hB : ∀ d k, Fin' (B d k)) (hA : ∀ k, A k = ∑ d, r d * B d k) :
    (∑ d, r d * r d) + (∑ k, A k * ((∑ l, A l * (∑ d, B d l * B d k)) - ((2 : ℝ) : EReal) * A k))
      = ∑ d, (r d - ∑ k, A k * B d k) * (r d - ∑ k, A k * B d k) := by
  choose r' hr' using hr
  choose B' hB' using hB
  obtain rfl : r = fun d => (r' d : EReal) := funext hr'
  obtain rfl : B = fun d k => (B' d k : EReal) := funext fun d => funext fun k => hB' d k
  obtain rfl : A = fun k => ((∑ d, r' d * B' d k : ℝ) : EReal) := funext fun k => by
    rw [hA k, coe_sum]; exact Finset.sum_congr rfl fun d _ => (EReal.coe_mul _ _).symm
  have h := norm_gram_real r' B' (fun k => ∑ d, r' d * B' d k) (fun _ => rfl)
  have h' := congrArg (fun x : ℝ => (x : EReal)) h
  simpa only [EReal.coe_mul, coe_sum, EReal.coe_sub, EReal.coe_add] using h'

end Cert.Nf4
-- ==== Proof.Parts.lean ====
/-
  Exact values of what a point computes: the leading part of a finite number is the number, the later parts are zero,
  so each product summed over parts is the product.
-/
module

public import proofs.«01_k».proof.Proof.Point
public import proofs.«01_k».proof.Proof.Spec
public import Idealize.ShloMosaic.Lib.Pointwise

@[expose] public section

set_option maxRecDepth 16384

noncomputable section

namespace Cert.KernelIdeal.Block

open Idealize.ShloMosaic Idealize.ShloMosaic.TcCoe Idealize.SL.Sem
open Cert.KernelIdeal Cert.KernelIdeal.Gen Cert.Nf4

/-! ## The factors' parts -/

/-- The right factor's leading part is the factor, transposed. -/
theorem right_hi (X : Vec Ideal S1x512x640 .f32) (k : Fin 640) (d : Fin 512) : k0_pay20 (F := Ideal) X (ix2 k d) = X (ix3 0 d k) := by
  pointwise [k0_pay20, k0_pay17, k0_pay16]

/-- The right factor's second part is zero where the factor is finite. -/
theorem right_mid (X : Vec Ideal S1x512x640 .f32) (k : Fin 640) (d : Fin 512) (h : Fin' (X (ix3 0 d k))) : k0_pay21 (F := Ideal) X (ix2 k d) = (0 : EReal) := by
  pointwise [k0_pay21, k0_pay19, k0_pay18, k0_pay17, k0_pay16]
  exact h.sub_self

/-- The right factor's third part is zero where the factor is finite. -/
theorem right_lo (X : Vec Ideal S1x512x640 .f32) (k : Fin 640) (d : Fin 512) (h : Fin' (X (ix3 0 d k))) : k0_pay22 (F := Ideal) X (ix2 k d) = (0 : EReal) := by
  pointwise [k0_pay22, k0_pay19, k0_pay18, k0_pay17, k0_pay16]
  rw [h.sub_self]
  exact sub_zero (0 : EReal)

/-- The left factor's leading part is the factor. -/
theorem left_hi (X : Vec Ideal S1x512x640 .f32) (s : Fin 512) (k : Fin 640) : k0_pay10 (F := Ideal) X (ix2 s k) = X (ix3 0 s k) := by
  pointwise [k0_pay10, k0_pay9, k0_pay8, k0_pay7, k0_pay6]

/-- The left factor's second part is zero where the factor is finite. -/
theorem left_mid (X : Vec Ideal S1x512x640 .f32) (s : Fin 512) (k : Fin 640) (h : Fin' (X (ix3 0 s k))) : k0_pay11 (F := Ideal) X (ix2 s k) = (0 : EReal) := by
  pointwise [k0_pay11, k0_pay9, k0_pay8, k0_pay7, k0_pay6]
  exact h.sub_self

/-- The left factor's third part is zero where the factor is finite. -/
theorem left_lo (X : Vec Ideal S1x512x640 .f32) (s : Fin 512) (k : Fin 640) (h : Fin' (X (ix3 0 s k))) : k0_pay12 (F := Ideal) X (ix2 s k) = (0 : EReal) := by
  pointwise [k0_pay12, k0_pay9, k0_pay8, k0_pay7, k0_pay6]
  rw [h.sub_self]
  exact sub_zero (0 : EReal)

/-! ## The tile -/

/-- Where the later parts are zero, the tile is the weights less the product of the leading parts. -/
theorem tileOf_at (a am al : Vec Ideal S512x640 .bf16) (b bm bl : Vec Ideal S640x512 .bf16) (X : Vec Ideal S1x512x512 .bf16) (s d : Fin 512)
    (ham : ∀ k, am (ix2 s k) = (0 : EReal)) (hal : ∀ k, al (ix2 s k) = (0 : EReal))
    (hbm : ∀ k, bm (ix2 k d) = (0 : EReal)) (hbl : ∀ k, bl (ix2 k d) = (0 : EReal)) :
    tileOf (F := Ideal) a am al b bm bl X (ix2 s d)
      = (X (ix3 0 s d) : EReal) - ∑ k : Fin 640, (a (ix2 s k) : EReal) * (b (ix2 k d) : EReal) := by
  pointwise [tileOf, k0_pay24, k0_pay23]
  simp only [ham, hal, hbm, hbl, zero_mul, mul_zero, Finset.sum_const_zero, zero_add]

/-! ## The accumulators -/

/-- Where the later parts are zero, the accumulator gains the product of the leading parts. -/
theorem acc_at (b bm bl : Vec Ideal S640x512 .bf16) (r rm rl : Vec Ideal S512x512 .bf16) (acc : Vec Ideal S640x512 .f32) (k : Fin 640) (s : Fin 512)
    (hbm : ∀ d, bm (ix2 k d) = (0 : EReal)) (hbl : ∀ d, bl (ix2 k d) = (0 : EReal))
    (hrm : ∀ d, rm (ix2 s d) = (0 : EReal)) (hrl : ∀ d, rl (ix2 s d) = (0 : EReal)) :
    k0_pay731 (F := Ideal) b bm bl r rm rl acc (ix2 k s)
      = (acc (ix2 k s) : EReal) + ∑ d : Fin 512, (b (ix2 k d) : EReal) * (r (ix2 s d) : EReal) := by
  pointwise [k0_pay731]
  simp only [hbm, hbl, hrm, hrl, zero_mul, mul_zero, Finset.sum_const_zero, zero_add]

/-- Where the later parts are zero, the Gram accumulator gains the products of the leading part's rows. -/
theorem gram_at (b bm bl : Vec Ideal S640x512 .bf16) (acc : Vec Ideal S640x640 .f32) (k l : Fin 640)
    (hbm : ∀ k d, bm (ix2 k d) = (0 : EReal)) (hbl : ∀ k d, bl (ix2 k d) = (0 : EReal)) :
    k0_pay1 (F := Ideal) b bm acc (k0_pay732 bm) (k0_pay733 b bl) (constant S640x640 .f32 0x00000000#32) (ix2 k l)
      = (acc (ix2 k l) : EReal) + ∑ d : Fin 512, (b (ix2 k d) : EReal) * (b (ix2 l d) : EReal) := by
  pointwise [k0_pay1, k0_pay732, k0_pay733]
  simp only [hbm, hbl, zero_mul, mul_zero, Finset.sum_const_zero, zero_add, add_zero]

/-! ## One block's quantiser -/

/-- A block's scale is its column's. -/
theorem scale_block (V : FVec Ideal S512x512 .f32) (b : Fin 8) (g : Fin 4) (l : Fin 128) :
    scale (F := Ideal) (block V b g) (ix2 0 l) = scaleOf fun i => V (ix2 (rowOf b i) (⟨128 * g.val + l.val, by omega⟩ : Fin 512)) := by
  pointwise [scale, colMax]
  rfl

/-- The tile's scale at a row group and column is that of the 64 numbers there. -/
theorem scaleAt_eq (V : FVec Ideal S512x512 .f32) (b : Fin 8) (c : Fin 512) :
    scaleAt V b c = scaleOf fun i => V (ix2 (rowOf b i) c) := by
  unfold scaleAt
  rw [scale_block]
  have e : (⟨128 * (c.val / 128) + c.val % 128, by omega⟩ : Fin 512) = c := Fin.ext (show 128 * (c.val / 128) + c.val % 128 = c.val by omega)
  exact congrArg (fun c => scaleOf fun i => V (ix2 (rowOf b i) c)) e

/-- What quantisation leaves of a block is the weight less the decoded number times the scale. -/
theorem left_block (V W : FVec Ideal S512x512 .f32) (b : Fin 8) (g : Fin 4) (i : Fin 64) (l : Fin 128) :
    left (F := Ideal) (block V b g) (block W b g) (ix2 i l)
      = (block W b g (ix2 i l) : EReal) - (table (F := Ideal) (Ideal.div (block V b g (ix2 i l)) (scale (block V b g) (ix2 0 l))) : EReal)
        * (scale (block V b g) (ix2 0 l) : EReal) := by
  pointwise [left, scaled]

/-- What quantisation leaves of the tile is the weight less the decoded number times the scale. -/
theorem leftAt_eq (V W : FVec Ideal S512x512 .f32) (s c : Fin 512) :
    leftAt V W s c = (W (ix2 s c) : EReal) - (table (F := Ideal) (Ideal.div (V (ix2 s c)) (scaleAt V (groupOf s) c)) : EReal)
        * (scaleAt V (groupOf s) c : EReal) := by
  have hb : ∀ X : FVec Ideal S512x512 .f32, block X ⟨s.val / 64, by omega⟩ ⟨c.val / 128, by omega⟩
      (ix2 (⟨s.val % 64, Nat.mod_lt _ (by decide)⟩ : Fin 64) (⟨c.val % 128, Nat.mod_lt _ (by decide)⟩ : Fin 128)) = X (ix2 s c) := fun X => by
    unfold block
    exact congrArg₂ (fun s c => X (ix2 s c)) (Fin.ext (show 64 * (s.val / 64) + s.val % 64 = s.val by omega))
      (Fin.ext (show 128 * (c.val / 128) + c.val % 128 = c.val by omega))
  unfold leftAt
  rw [left_block, hb, hb]
  rfl

/-- A block's codes are those of its numbers over their scales. -/
theorem codes_block (V : FVec Ideal S512x512 .f32) (b : Fin 8) (g : Fin 4) (i : Fin 64) (l : Fin 128) :
    codes (F := Ideal) (block V b g) (ix2 i l) = code (F := Ideal) (Ideal.div (block V b g (ix2 i l)) (scale (block V b g) (ix2 0 l))) := by
  unfold codes
  exact congrArg code (by pointwise [scaled])

/-- The tile's packed byte holds the codes of its two rows. -/
theorem byteAt_eq (V : FVec Ideal S512x512 .f32) (p : Fin 256) (c : Fin 512) :
    byteAt V p c = byteOf
      (code (F := Ideal) (Ideal.div (V (ix2 (⟨2 * p.val, by omega⟩ : Fin 512) c)) (scaleAt V ⟨p.val / 32, by omega⟩ c)))
      (code (F := Ideal) (Ideal.div (V (ix2 (⟨2 * p.val + 1, by omega⟩ : Fin 512) c)) (scaleAt V ⟨p.val / 32, by omega⟩ c))) := by
  have hb : ∀ (i : Fin 64) (s : Fin 512), s.val = 64 * (p.val / 32) + i.val → block V ⟨p.val / 32, by omega⟩ ⟨c.val / 128, by omega⟩
      (ix2 i (⟨c.val % 128, Nat.mod_lt _ (by decide)⟩ : Fin 128)) = V (ix2 s c) := fun i s h => by
    unfold block
    exact congrArg₂ (fun s c => V (ix2 s c)) (Fin.ext h.symm)
      (Fin.ext (show 128 * (c.val / 128) + c.val % 128 = c.val by omega))
  unfold byteAt bytes
  refine (pack_apply _ _ _ (codes _) (fun i k hk => codeOf_high _ _ _ _ k hk) _ _).trans ?_
  rw [codes_block, codes_block,
    hb _ (⟨2 * p.val, by omega⟩ : Fin 512) (show 2 * p.val = 64 * (p.val / 32) + 2 * (p.val % 32) by omega),
    hb _ (⟨2 * p.val + 1, by omega⟩ : Fin 512) (show 2 * p.val + 1 = 64 * (p.val / 32) + (2 * (p.val % 32) + 1) by omega)]
  rfl

/-! ## The residual's parts -/

/-- The first part of what quantisation leaves is itself. -/
theorem third_hi (V : FVec Ideal S512x512 .f32) (X : Vec Ideal S1x512x512 .bf16) (s d : Fin 512) :
    third V X 0 (ix2 s d) = (leftAt V (tileW X) s d : EReal) := rfl

/-- The second part of what quantisation leaves is zero where that is finite. -/
theorem third_mid (V : FVec Ideal S512x512 .f32) (X : Vec Ideal S1x512x512 .bf16) (s d : Fin 512) (h : Fin' (leftAt V (tileW X) s d)) :
    third V X 1 (ix2 s d) = (0 : EReal) := h.sub_self

/-- The third part of what quantisation leaves is zero where that is finite. -/
theorem third_lo (V : FVec Ideal S512x512 .f32) (X : Vec Ideal S1x512x512 .bf16) (s d : Fin 512) (h : Fin' (leftAt V (tileW X) s d)) :
    third V X 2 (ix2 s d) = (0 : EReal) := by
  show (leftAt V (tileW X) s d : EReal) - leftAt V (tileW X) s d - (leftAt V (tileW X) s d - leftAt V (tileW X) s d) = 0
  rw [h.sub_self]
  exact sub_zero (0 : EReal)

/-! ## The last point's squared lengths -/

/-- The squared lengths as the last point computes them from the accumulators, in sums. -/
theorem norm_raw (X4 : Vec Ideal S640x512 .f32) (X5 : Vec Ideal S640x640 .f32) (X6 : Vec Ideal S512x128 .f32) (s : Fin 512)
    (h4 : ∀ k s, Fin' (X4 (ix2 k s))) (h5 : ∀ k l, Fin' (X5 (ix2 k l))) :
    k0_pay2 (F := Ideal) (k0_pay5 X4 X5 X6) (ix3 0 s 0)
      = (∑ l : Fin 128, (X6 (ix2 s l) : EReal)) + ∑ k : Fin 640, (X4 (ix2 k s) : EReal)
          * ((∑ l : Fin 640, (X4 (ix2 l s) : EReal) * (X5 (ix2 l k) : EReal)) - ((2 : ℝ) : EReal) * (X4 (ix2 k s) : EReal)) := by
  have h2 : Ideal.ofBits .f32 0x40000000#32 = ((2 : ℝ) : EReal) := by
    simp [Ideal.ofBits, Ideal.ieee]
    rw [← EReal.coe_mul]; norm_num
  pointwise [k0_pay2, k0_pay5, k0_pay3]
  simp only [fun k s => (h4 k s).sub_self, fun k s => (h5 k s).sub_self, sub_zero, zero_mul, mul_zero, Finset.sum_const_zero, zero_add, add_zero, h2]

/-- The new left factor is the accumulator, transposed. -/
theorem factor_raw (X4 : Vec Ideal S640x512 .f32) (s : Fin 512) (k : Fin 640) :
   k0_pay4 (F := Ideal) X4 (ix3 0 s k) = X4 (ix2 k s) := by
  pointwise [k0_pay4, k0_pay3]

end Cert.KernelIdeal.Block
-- ==== Proof.Tiles.lean ====
/-
  One grid point's results in plain mathematics: where its blocks hold the columns `e` of the arguments, its tile, codes,
  scales and additions to the accumulators are those columns of the quantisation.
-/
module

public import proofs.«01_k».proof.Proof.Parts

@[expose] public section

set_option maxRecDepth 16384

noncomputable section

namespace Cert.KernelIdeal.Tiles

open Idealize.ShloMosaic Idealize.ShloMosaic.TcCoe Idealize.SL.Sem
open Cert.KernelIdeal Cert.KernelIdeal.Gen Cert.KernelIdeal.Block Cert.Nf4

variable (w : Fin 2 → Fin 512 → Fin 18432 → EReal) (a : Fin 2 → Fin 512 → Fin 640 → EReal) (b : Fin 2 → Fin 18432 → Fin 640 → EReal)

/-- The stored parts hold batch `p`'s left factor: the leading part is the factor, the others zero. -/
structure Parts (p : Fin 2) (A : Vec Ideal S512x1920 .bf16) : Prop where
  hi : ∀ s k, colsHi A (ix2 s k) = a p s k
  mid : ∀ s k, colsMid A (ix2 s k) = (0 : EReal)
  lo : ∀ s k, colsLo A (ix2 s k) = (0 : EReal)

/-- The point's blocks hold columns `e` of batch `p`. -/
structure Reads (p : Fin 2) (e : Fin 512 → Fin 18432) (X0 : Vec Ideal S1x512x512 .bf16) (X2 : Vec Ideal S1x512x640 .f32) : Prop where
  weights : ∀ s l, X0 (ix3 0 s l) = w p s (e l)
  right : ∀ l k, X2 (ix3 0 l k) = b p (e l) k

/-- The parts made of a block that holds the left factor. -/
theorem parts_of (ha : ∀ p s k, Fin' (a p s k)) (p : Fin 2) (X1 : Vec Ideal S1x512x640 .f32) (h : ∀ s k, X1 (ix3 0 s k) = a p s k) :
    Parts a p (leftParts X1) where
  hi s k := by rw [colsHi_leftParts, left_hi, h]
  mid s k := by rw [colsMid_leftParts]; exact left_mid X1 s k (by rw [h]; exact ha p s k)
  lo s k := by rw [colsLo_leftParts]; exact left_lo X1 s k (by rw [h]; exact ha p s k)

variable (hw : ∀ p s d, Fin' (w p s d)) (ha : ∀ p s k, Fin' (a p s k)) (hb : ∀ p d k, Fin' (b p d k))
variable {p : Fin 2} {e : Fin 512 → Fin 18432} {A : Vec Ideal S512x1920 .bf16} {X0 : Vec Ideal S1x512x512 .bf16} {X2 : Vec Ideal S1x512x640 .f32}
variable (hA : Parts a p A) (hR : Reads w b p e X0 X2)
include hb hR

/-- The right factor's block is finite. -/
theorem right_fin (k : Fin 640) (d : Fin 512) : Fin' (X2 (ix3 0 d k)) := by rw [hR.right]; exact hb _ _ _

/-- A point adds its columns to the Gram accumulator. -/
theorem gram_step (acc : Vec Ideal S640x640 .f32) (k l : Fin 640) :
    gramStep X2 acc (ix2 k l) = (acc (ix2 k l) : EReal) + ∑ d : Fin 512, b p (e d) k * b p (e d) l := by
  unfold gramStep
  refine (gram_at _ _ _ acc k l (fun k d => right_mid X2 k d (right_fin w b hb hR k d)) (fun k d => right_lo X2 k d (right_fin w b hb hR k d))).trans ?_
  simp only [right_hi, hR.right]

include hA

/-- The tile is the weights less the product of the factors, in the point's columns. -/
theorem tile_at (s l : Fin 512) : tile A X0 X2 (ix2 s l) = diff w a b p s (e l) := by
  unfold tile
  refine (tileOf_at _ _ _ _ _ _ X0 s l (hA.mid s) (hA.lo s) (fun k => right_mid X2 k l (right_fin w b hb hR k l))
    (fun k => right_lo X2 k l (right_fin w b hb hR k l))).trans ?_
  simp only [right_hi, hR.right, hR.weights, hA.hi, diff]

/-- The tile's scales are the quantisation's. -/
theorem scale_of (g : Fin 8) (l : Fin 512) : scaleAt (tile A X0 X2) g l = sc w a b p g (e l) := by
  rw [scaleAt_eq]
  exact congrArg scaleOf (funext fun i => tile_at w a b hb hA hR _ _)

/-- The block of scales holds the quantisation's. -/
theorem scale_at (g : Fin 8) (l : Fin 512) : scaleBlock (tile A X0 X2) (ix3 0 g l) = sc w a b p g (e l) :=
  scale_of w a b hb hA hR g l

/-- The block of codes holds the quantisation's. -/
theorem byte_at (i : Fin 256) (l : Fin 512) : byteBlock (tile A X0 X2) (ix3 0 i l) = byt w a b p i (e l) := by
  refine (byteAt_eq (tile A X0 X2) i l).trans ?_
  rw [tile_at w a b hb hA hR, tile_at w a b hb hA hR, scale_of w a b hb hA hR]
  have e1 : groupOf (⟨2 * i.val, by omega⟩ : Fin 512) = ⟨i.val / 32, by omega⟩ := Fin.ext (show 2 * i.val / 64 = i.val / 32 by omega)
  have e2 : groupOf (⟨2 * i.val + 1, by omega⟩ : Fin 512) = ⟨i.val / 32, by omega⟩ := Fin.ext (show (2 * i.val + 1) / 64 = i.val / 32 by omega)
  unfold byt scl
  rw [e1, e2]

/-- What quantisation leaves of the tile is what it leaves of the point's columns. -/
theorem left_at (s l : Fin 512) : leftAt (tile A X0 X2) (tileW X0) s l = rem w a b p s (e l) := by
  rw [leftAt_eq, tile_at w a b hb hA hR, scale_of w a b hb hA hR]
  have h : tileW X0 (ix2 s l) = w p s (e l) := hR.weights s l
  rw [h]
  rfl

/-- A point adds its squares, four columns to a lane. -/
theorem square_step (z : Vec Ideal S512x128 .f32) (s : Fin 512) (l : Fin 128) :
    sqBlock (tile A X0 X2) X0 z (ix2 s l)
      = (z (ix2 s l) : EReal) + ∑ g : Fin 4, rem w a b p s (e ⟨128 * g.val + l.val, by omega⟩) * rem w a b p s (e ⟨128 * g.val + l.val, by omega⟩) := by
  have h : ∀ g : Fin 4, sq1 (tile A X0 X2) (tileW X0) s g l
      = rem w a b p s (e ⟨128 * g.val + l.val, by omega⟩) * rem w a b p s (e ⟨128 * g.val + l.val, by omega⟩) := fun g => by
    unfold sq1
    rw [left_at w a b hb hA hR]
    rfl
  show sqSum (tile A X0 X2) (tileW X0) (z (ix2 s l)) s l = _
  unfold sqSum
  rw [h, h, h, h, Fin.sum_univ_four, ← add_assoc, ← add_assoc, ← add_assoc]
  rfl

include hw ha

/-- A point adds its columns to the accumulator of the new left factor. -/
theorem acc_step (acc : Vec Ideal S640x512 .f32) (k : Fin 640) (s : Fin 512) :
    accStep (tile A X0 X2) X0 X2 acc (ix2 k s) = (acc (ix2 k s) : EReal) + ∑ d : Fin 512, rem w a b p s (e d) * b p (e d) k := by
  have hf : ∀ d, Fin' (leftAt (tile A X0 X2) (tileW X0) s d) := fun d => by
    rw [left_at w a b hb hA hR]; exact rem_fin w a b hw ha hb _ _ _
  unfold accStep
  refine (acc_at _ _ _ _ _ _ acc k s (fun d => right_mid X2 k d (right_fin w b hb hR k d)) (fun d => right_lo X2 k d (right_fin w b hb hR k d))
    (fun d => third_mid _ X0 s d (hf d)) (fun d => third_lo _ X0 s d (hf d))).trans ?_
  simp only [right_hi, hR.right, third_hi, left_at w a b hb hA hR]
  exact congrArg _ (Finset.sum_congr rfl fun d _ => mul_comm _ _)

end Cert.KernelIdeal.Tiles
-- ==== Proof.Sums.lean ====
/-
  Sums over all columns, taken block by block.
-/
module

public import proofs.«01_k».proof.Proof.Spec

@[expose] public section

noncomputable section

namespace Cert.Nf4

/-- Column `l` of block `j`. -/
def colOf (j : ℕ) (l : Fin 512) : Fin 18432 := ⟨(512 * j + l.val) % 18432, Nat.mod_lt _ (by decide)⟩

/-- The number of a block's column among all columns. -/
theorem colOf_val (j : ℕ) (l : Fin 512) (h : j < 36) : (colOf j l).val = 512 * j + l.val :=
  Nat.mod_eq_of_lt (by omega)

/-- A sum over a product of two numbers of places is a double sum. -/
theorem sum_prod {m n : ℕ} {M : Type} [AddCommMonoid M] (f : Fin (m * n) → M) :
    ∑ i : Fin m, ∑ l : Fin n, f (finProdFinEquiv (i, l)) = ∑ d, f d := by
  rw [← Fintype.sum_prod_type', Equiv.sum_comp]

/-- The blocks' sums, added, are the sum over all columns. -/
theorem sum_blocks (f : Fin 18432 → EReal) : ∑ j ∈ Finset.range 36, ∑ l : Fin 512, f (colOf j l) = ∑ d, f d := by
  rw [Finset.sum_range]
  refine Eq.trans ?_ (sum_prod (m := 36) (n := 512) f)
  refine Finset.sum_congr rfl fun i _ => Finset.sum_congr rfl fun l _ => congrArg f (Fin.ext ?_)
  rw [colOf_val _ _ i.isLt]
  exact Nat.add_comm _ _

/-- The same with each block's columns taken lane by lane. -/
theorem sum_lanes (f : Fin 18432 → EReal) :
    ∑ l : Fin 128, ∑ j ∈ Finset.range 36, ∑ g : Fin 4, f (colOf j ⟨128 * g.val + l.val, by omega⟩) = ∑ d, f d := by
  rw [Finset.sum_comm, ← sum_blocks f]
  refine Finset.sum_congr rfl fun j _ => ?_
  rw [Finset.sum_comm]
  refine Eq.trans ?_ (sum_prod (m := 4) (n := 128) fun l : Fin 512 => f (colOf j l))
  refine Finset.sum_congr rfl fun g _ => Finset.sum_congr rfl fun l _ => congrArg (fun l => f (colOf j l)) (Fin.ext ?_)
  exact Nat.add_comm _ _

end Cert.Nf4
-- ==== Proof.Steps.lean ====
/-
  The accumulators along a sweep: after `n` points they hold the sums over the first `n` blocks of columns, and after all
  thirty-six the finished results are the quantisation's.
-/
module

public import proofs.«01_k».proof.Proof.Tiles
public import proofs.«01_k».proof.Proof.Sums

@[expose] public section

set_option maxRecDepth 16384

noncomputable section

namespace Cert.KernelIdeal.Tiles

open Idealize.ShloMosaic Idealize.ShloMosaic.TcCoe Idealize.SL.Sem
open Cert.KernelIdeal Cert.KernelIdeal.Gen Cert.KernelIdeal.Block Cert.Nf4

variable (w : Fin 2 → Fin 512 → Fin 18432 → EReal) (a : Fin 2 → Fin 512 → Fin 640 → EReal) (b : Fin 2 → Fin 18432 → Fin 640 → EReal)

/-- The accumulators hold batch `p`'s sums over the first `n` blocks of columns. -/
structure Sums (p : Fin 2) (n : ℕ) (X4 : Vec Ideal S640x512 .f32) (X5 : Vec Ideal S640x640 .f32) (X6 : Vec Ideal S512x128 .f32) : Prop where
  fac : ∀ k s, X4 (ix2 k s) = ∑ j ∈ Finset.range n, ∑ d : Fin 512, rem w a b p s (colOf j d) * b p (colOf j d) k
  gram : ∀ k l, X5 (ix2 k l) = ∑ j ∈ Finset.range n, ∑ d : Fin 512, b p (colOf j d) k * b p (colOf j d) l
  squares : ∀ s (l : Fin 128), X6 (ix2 s l) = ∑ j ∈ Finset.range n, ∑ g : Fin 4,
    rem w a b p s (colOf j ⟨128 * g.val + l.val, by omega⟩) * rem w a b p s (colOf j ⟨128 * g.val + l.val, by omega⟩)

/-- What a sweep's point leaves: the block's codes and scales, the left factor's parts, and the sums so far. -/
structure Held (p : Fin 2) (j : ℕ) (O5 : Vec Ideal S1x256x512 .i8) (O6 : Vec Ideal S1x8x512 .f32) (A : Vec Ideal S512x1920 .bf16)
    (X4 : Vec Ideal S640x512 .f32) (X5 : Vec Ideal S640x640 .f32) (X6 : Vec Ideal S512x128 .f32) : Prop where
  bytes : ∀ i l, O5 (ix3 0 i l) = byt w a b p i (colOf j l)
  scales : ∀ g l, O6 (ix3 0 g l) = sc w a b p g (colOf j l)
  parts : Parts a p A
  sums : Sums w a b p (j + 1) X4 X5 X6

/-- The cleared accumulators hold no blocks' sums. -/
theorem sums_zero (p : Fin 2) : Sums w a b p 0 (k0_pay13 (F := Ideal)) (k0_pay14 (F := Ideal)) (constant (F := Ideal) S512x128 .f32 0x00000000#32) where
  fac k s := by
    rw [Finset.sum_range_zero]
    pointwise [k0_pay13]
  gram k l := by
    rw [Finset.sum_range_zero]
    pointwise [k0_pay14]
  squares s l := by
    rw [Finset.sum_range_zero]
    exact Ideal.ofBits_zero .f32

variable (hw : ∀ p s d, Fin' (w p s d)) (ha : ∀ p s k, Fin' (a p s k)) (hb : ∀ p d k, Fin' (b p d k))
variable {p : Fin 2} {j : ℕ} {A : Vec Ideal S512x1920 .bf16} {X0 : Vec Ideal S1x512x512 .bf16} {X2 : Vec Ideal S1x512x640 .f32}
variable {X4 : Vec Ideal S640x512 .f32} {X5 : Vec Ideal S640x640 .f32} {X6 : Vec Ideal S512x128 .f32}
include hw ha hb

/-- One more point adds its block of columns to every accumulator. -/
theorem held_step (hA : Parts a p A) (hR : Reads w b p (colOf j) X0 X2) (hS : Sums w a b p j X4 X5 X6) :
    Held w a b p j (byteBlock (tile A X0 X2)) (scaleBlock (tile A X0 X2)) A (accStep (tile A X0 X2) X0 X2 X4) (gramStep X2 X5)
      (sqBlock (tile A X0 X2) X0 X6) where
  bytes := byte_at w a b hb hA hR
  scales := scale_at w a b hb hA hR
  parts := hA
  sums :=
    { fac := fun k s => by rw [acc_step w a b hw ha hb hA hR, hS.fac, Finset.sum_range_succ]
      gram := fun k l => by rw [gram_step w b hb hR, hS.gram, Finset.sum_range_succ]
      squares := fun s l => by rw [square_step w a b hb hA hR, hS.squares, Finset.sum_range_succ] }

/-- After all points the accumulator holds the new left factor. -/
theorem sums_fac (hS : Sums w a b p 36 X4 X5 X6) (k : Fin 640) (s : Fin 512) : X4 (ix2 k s) = fac w a b p s k := by
  rw [hS.fac]
  exact sum_blocks fun d => rem w a b p s d * b p d k

/-- The finished left factor. -/
theorem factor_end (hS : Sums w a b p 36 X4 X5 X6) (s : Fin 512) (k : Fin 640) : k0_pay4 (F := Ideal) X4 (ix3 0 s k) = fac w a b p s k := by
  rw [factor_raw]
  exact sums_fac w a b hw ha hb hS k s

/-- The finished squared lengths. -/
theorem norm_end (hS : Sums w a b p 36 X4 X5 X6) (s : Fin 512) : k0_pay2 (F := Ideal) (k0_pay5 X4 X5 X6) (ix3 0 s 0) = nrm w a b p s := by
  have h5 : ∀ k l, X5 (ix2 k l) = ∑ d : Fin 18432, b p d k * b p d l := fun k l => by
    rw [hS.gram]
    exact sum_blocks fun d => b p d k * b p d l
  have h6 : ∑ l : Fin 128, (X6 (ix2 s l) : EReal) = ∑ d : Fin 18432, rem w a b p s d * rem w a b p s d := by
    simp only [hS.squares]
    exact sum_lanes fun d => rem w a b p s d * rem w a b p s d
  refine (norm_raw X4 X5 X6 s
    (fun k s => by rw [sums_fac w a b hw ha hb hS]; exact fac_fin w a b hw ha hb p s k)
    (fun k l => by rw [h5]; exact Fin'.sum _ _ fun d _ => (hb p d k).mul (hb p d l))).trans ?_
  rw [h6]
  simp only [sums_fac w a b hw ha hb hS, h5]
  exact norm_gram (fun d => rem w a b p s d) (fun d k => b p d k) (fun k => fac w a b p s k) (fun d => rem_fin w a b hw ha hb p s d)
    (fun d k => hb p d k) (fun k => rfl)

end Cert.KernelIdeal.Tiles
-- ==== Proof.CaseA.lean ====
/-
  The first point of a sweep: what it writes.
-/
module

public import proofs.«01_k».proof.Proof.Point
public import proofs.«01_k».proof.Proof.Gen.KernelIdeal.Frame

@[expose] public section

set_option maxRecDepth 16384

noncomputable section

namespace Cert.KernelIdeal.Block.CaseA

open Idealize.ShloMosaic Idealize.ShloMosaic.TcCoe Idealize.SL.Sem
open Cert.KernelIdeal Cert.KernelIdeal.Gen Cert.Nf4

variable {F : FTy → Type} [FloatOps F] (c : Dev nD) (i : grid0.Coords)
    (arg2 : Memref sig .tc .vmem S1x512x512 .bf16) (harg2 : arg2.IsWhole)
    (arg3 : Memref sig .tc .vmem S1x512x640 .f32) (harg3 : arg3.IsWhole)
    (arg4 : Memref sig .tc .vmem S1x512x640 .f32) (harg4 : arg4.IsWhole)
    (arg5 : Memref sig .tc .vmem S1x512x640 .f32) (harg5 : arg5.IsWhole)
    (arg6 : Memref sig .tc .vmem S1x512x1 .f32) (harg6 : arg6.IsWhole)
    (arg7 : Memref sig .tc .vmem S1x256x512 .i8) (harg7 : arg7.IsWhole)
    (arg8 : Memref sig .tc .vmem S1x8x512 .f32) (harg8 : arg8.IsWhole)
    (arg9 : Memref sig .tc .vmem S512x1920 .bf16) (harg9 : arg9.IsWhole)
    (arg10 : Memref sig .tc .vmem S1920x512 .bf16) (harg10 : arg10.IsWhole)
    (arg11 : Memref sig .tc .vmem S512x512 .f32) (harg11 : arg11.IsWhole)
    (arg12 : Memref sig .tc .vmem S1536x512 .bf16) (harg12 : arg12.IsWhole)
    (arg13 : Memref sig .tc .vmem S640x512 .f32) (harg13 : arg13.IsWhole)
    (arg14 : Memref sig .tc .vmem S640x640 .f32) (harg14 : arg14.IsWhole)
    (arg15 : Memref sig .tc .vmem S512x128 .f32) (harg15 : arg15.IsWhole)
    (hc0 : cond0_0 i) (hc1 : ¬cond0_1 i)
    (x0 : Vec F S1x512x512 .bf16) (x1 : Vec F S1x512x640 .f32) (x2 : Vec F S1x512x640 .f32)

/-- The stores of codes at a sweep's first point, as one list over the blocks. -/
theorem bytes_list : (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2).2.2.1 = rows (byteStore arg11.view (tileFirst arg9.view arg10.view (arg2.view.read (Elt F) (harg2.unread x0)) (arg3.view.read (Elt F) (harg3.unread x1)) (arg4.view.read (Elt F) (harg4.unread x2)))) := by
  sl_kernel_rfl

/-- The codes a first point leaves are the tile's. -/
theorem bytes : out0_A_5 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 = byteBlock (tile (leftParts x1) x0 x2) := by
  unfold out0_A_5
  rw [View.read_writes_junk_eq_canon, bytes_list]
  funext y
  rw [canon_bytes, tileFirst_eq, harg2.read_unread, harg4.read_unread, harg3.read_unread]

/-- The stores of scales at a sweep's first point, as one list over the blocks. -/
theorem scales_list : (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2).2.2.2.1 = rows (scaleStore arg11.view (tileFirst arg9.view arg10.view (arg2.view.read (Elt F) (harg2.unread x0)) (arg3.view.read (Elt F) (harg3.unread x1)) (arg4.view.read (Elt F) (harg4.unread x2)))) := by
  sl_kernel_rfl

/-- The scales a first point leaves are the tile's. -/
theorem scales : out0_A_6 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 = scaleBlock (tile (leftParts x1) x0 x2) := by
  unfold out0_A_6
  rw [View.read_writes_junk_eq_canon, scales_list]
  funext y
  rw [canon_scales, tileFirst_eq, harg2.read_unread, harg4.read_unread, harg3.read_unread]
  rfl

/-- The stores to the accumulator of the new left factor at a sweep's first point. -/
theorem acc_list : (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2).2.2.2.2.2.1 = (⟨accRect, accRaw arg10.view arg11.view arg12.view (tileFirst arg9.view arg10.view (arg2.view.read (Elt F) (harg2.unread x0)) (arg3.view.read (Elt F) (harg3.unread x1)) (arg4.view.read (Elt F) (harg4.unread x2))) (arg2.view.read (Elt F) (harg2.unread x0)) (arg4.view.read (Elt F) (harg4.unread x2)) (arg13.view.readCov zeroAcc accRect.toLoadRect)⟩ : View.Piece (Elt F) S640x512 .f32) :: zeroAcc := by
  sl_kernel_rfl

/-- What a first point leaves in the accumulator of the new left factor. -/
theorem acc : sout0_A_4 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 = accStep (tile (leftParts x1) x0 x2) x0 x2 k0_pay13 := by
  unfold sout0_A_4
  rw [View.read_writes_junk_eq_canon, acc_list, canon_acc, accRaw_eq, tileFirst_eq, harg2.read_unread, harg4.read_unread, harg3.read_unread, readCov_ld]
  unfold zeroAcc
  rw [ld_top]

/-- The stores to the Gram accumulator at a sweep's first point. -/
theorem gram_list : (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2).2.2.2.2.2.2.1 = (⟨gramRect, gramRaw arg10.view (arg4.view.read (Elt F) (harg4.unread x2)) (arg14.view.readCov zeroGram gramRect.toLoadRect)⟩ : View.Piece (Elt F) S640x640 .f32) :: zeroGram := by
  sl_kernel_rfl

/-- What a first point leaves in the Gram accumulator. -/
theorem gram : sout0_A_5 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 = gramStep x2 k0_pay14 := by
  unfold sout0_A_5
  rw [View.read_writes_junk_eq_canon, gram_list, canon_gram, gramRaw_eq, harg4.read_unread, readCov_ld]
  unfold zeroGram
  rw [ld_top]

/-- The stores to the accumulated squares at a sweep's first point, as one list over the blocks. -/
theorem squares_list : (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2).2.2.2.2.2.2.2.1 = sqAll arg15.view arg11.view (tileFirst arg9.view arg10.view (arg2.view.read (Elt F) (harg2.unread x0)) (arg3.view.read (Elt F) (harg3.unread x1)) (arg4.view.read (Elt F) (harg4.unread x2))) (arg2.view.read (Elt F) (harg2.unread x0)) (sqFresh arg15.view) sqZero := by
  sl_kernel_rfl

/-- What a first point leaves in the accumulated squares. -/
theorem squares : sout0_A_6 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 = sqBlock (tile (leftParts x1) x0 x2) x0 (constant S512x128 .f32 0x00000000#32) := by
  unfold sout0_A_6
  rw [View.read_writes_junk_eq_canon, squares_list]
  funext y
  rw [canon_sqFresh, tileFirst_eq, harg2.read_unread, harg4.read_unread, harg3.read_unread]
  rfl

/-- The stores of the left factor's parts at a sweep's first point. -/
theorem parts_list : (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2).2.2.2.2.1 = leftList (arg3.view.read (Elt F) (harg3.unread x1)) := by
  sl_kernel_rfl

/-- What a first point leaves as the left factor's parts. -/
theorem parts : sout0_A_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 = leftParts x1 := by
  unfold sout0_A_0
  rw [View.read_writes_junk_eq_canon, parts_list, harg3.read_unread]
  rfl

end Cert.KernelIdeal.Block.CaseA
-- ==== Proof.CaseB.lean ====
/-
  A point inside a sweep: what it writes.
-/
module

public import proofs.«01_k».proof.Proof.Point
public import proofs.«01_k».proof.Proof.Gen.KernelIdeal.Frame

@[expose] public section

set_option maxRecDepth 16384

noncomputable section

namespace Cert.KernelIdeal.Block.CaseB

open Idealize.ShloMosaic Idealize.ShloMosaic.TcCoe Idealize.SL.Sem
open Cert.KernelIdeal Cert.KernelIdeal.Gen Cert.Nf4

variable {F : FTy → Type} [FloatOps F] (c : Dev nD) (i : grid0.Coords)
    (arg2 : Memref sig .tc .vmem S1x512x512 .bf16) (harg2 : arg2.IsWhole)
    (arg3 : Memref sig .tc .vmem S1x512x640 .f32) (harg3 : arg3.IsWhole)
    (arg4 : Memref sig .tc .vmem S1x512x640 .f32) (harg4 : arg4.IsWhole)
    (arg5 : Memref sig .tc .vmem S1x512x640 .f32) (harg5 : arg5.IsWhole)
    (arg6 : Memref sig .tc .vmem S1x512x1 .f32) (harg6 : arg6.IsWhole)
    (arg7 : Memref sig .tc .vmem S1x256x512 .i8) (harg7 : arg7.IsWhole)
    (arg8 : Memref sig .tc .vmem S1x8x512 .f32) (harg8 : arg8.IsWhole)
    (arg9 : Memref sig .tc .vmem S512x1920 .bf16) (harg9 : arg9.IsWhole)
    (arg10 : Memref sig .tc .vmem S1920x512 .bf16) (harg10 : arg10.IsWhole)
    (arg11 : Memref sig .tc .vmem S512x512 .f32) (harg11 : arg11.IsWhole)
    (arg12 : Memref sig .tc .vmem S1536x512 .bf16) (harg12 : arg12.IsWhole)
    (arg13 : Memref sig .tc .vmem S640x512 .f32) (harg13 : arg13.IsWhole)
    (arg14 : Memref sig .tc .vmem S640x640 .f32) (harg14 : arg14.IsWhole)
    (arg15 : Memref sig .tc .vmem S512x128 .f32) (harg15 : arg15.IsWhole)
    (hc0 : ¬cond0_0 i) (hc1 : ¬cond0_1 i)
    (x0 : Vec F S1x512x512 .bf16) (x1 : Vec F S1x512x640 .f32) (x2 : Vec F S1x512x640 .f32)
    (xs0 : Vec F S512x1920 .bf16) (xs4 : Vec F S640x512 .f32) (xs5 : Vec F S640x640 .f32) (xs6 : Vec F S512x128 .f32)

/-- The stores of codes at a sweep's middle point, as one list over the blocks. -/
theorem bytes_list : (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 xs0 xs4 xs5 xs6).2.2.1 = rows (byteStore arg11.view (tileRaw (arg9.view.read (Elt F) (harg9.unread xs0)) arg10.view (arg2.view.read (Elt F) (harg2.unread x0)) (arg4.view.read (Elt F) (harg4.unread x2)))) := by
  sl_kernel_rfl

/-- The codes a middle point leaves are the tile's. -/
theorem bytes : out0_B_5 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 xs0 xs4 xs5 xs6 = byteBlock (tile xs0 x0 x2) := by
  unfold out0_B_5
  rw [View.read_writes_junk_eq_canon, bytes_list]
  funext y
  rw [canon_bytes, tileRaw_eq, harg2.read_unread, harg4.read_unread, harg9.read_unread]

/-- The stores of scales at a sweep's middle point, as one list over the blocks. -/
theorem scales_list : (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 xs0 xs4 xs5 xs6).2.2.2.1 = rows (scaleStore arg11.view (tileRaw (arg9.view.read (Elt F) (harg9.unread xs0)) arg10.view (arg2.view.read (Elt F) (harg2.unread x0)) (arg4.view.read (Elt F) (harg4.unread x2)))) := by
  sl_kernel_rfl

/-- The scales a middle point leaves are the tile's. -/
theorem scales : out0_B_6 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 xs0 xs4 xs5 xs6 = scaleBlock (tile xs0 x0 x2) := by
  unfold out0_B_6
  rw [View.read_writes_junk_eq_canon, scales_list]
  funext y
  rw [canon_scales, tileRaw_eq, harg2.read_unread, harg4.read_unread, harg9.read_unread]
  rfl

/-- The stores to the accumulator of the new left factor at a sweep's middle point. -/
theorem acc_list : (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 xs0 xs4 xs5 xs6).2.2.2.2.2.1 = [(⟨accRect, accRaw arg10.view arg11.view arg12.view (tileRaw (arg9.view.read (Elt F) (harg9.unread xs0)) arg10.view (arg2.view.read (Elt F) (harg2.unread x0)) (arg4.view.read (Elt F) (harg4.unread x2))) (arg2.view.read (Elt F) (harg2.unread x0)) (arg4.view.read (Elt F) (harg4.unread x2)) (View.ld (arg13.view.read (Elt F) (harg13.unread xs4)) accRect)⟩ : View.Piece (Elt F) S640x512 .f32)] := by
  sl_kernel_rfl

/-- What a middle point leaves in the accumulator of the new left factor. -/
theorem acc : sout0_B_4 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 xs0 xs4 xs5 xs6 = accStep (tile xs0 x0 x2) x0 x2 xs4 := by
  unfold sout0_B_4
  rw [View.read_writes_junk_eq_canon, acc_list, canon_acc, accRaw_eq, tileRaw_eq, harg2.read_unread, harg4.read_unread, harg9.read_unread, ld_acc, harg13.read_unread]

/-- The stores to the Gram accumulator at a sweep's middle point. -/
theorem gram_list : (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 xs0 xs4 xs5 xs6).2.2.2.2.2.2.1 = [(⟨gramRect, gramRaw arg10.view (arg4.view.read (Elt F) (harg4.unread x2)) (View.ld (arg14.view.read (Elt F) (harg14.unread xs5)) gramRect)⟩ : View.Piece (Elt F) S640x640 .f32)] := by
  sl_kernel_rfl

/-- What a middle point leaves in the Gram accumulator. -/
theorem gram : sout0_B_5 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 xs0 xs4 xs5 xs6 = gramStep x2 xs5 := by
  unfold sout0_B_5
  rw [View.read_writes_junk_eq_canon, gram_list, canon_gram, gramRaw_eq, harg4.read_unread, ld_gram, harg14.read_unread]

/-- The stores to the accumulated squares at a sweep's middle point, as one list over the blocks. -/
theorem squares_list : (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 xs0 xs4 xs5 xs6).2.2.2.2.2.2.2.1 = sqAll arg15.view arg11.view (tileRaw (arg9.view.read (Elt F) (harg9.unread xs0)) arg10.view (arg2.view.read (Elt F) (harg2.unread x0)) (arg4.view.read (Elt F) (harg4.unread x2))) (arg2.view.read (Elt F) (harg2.unread x0)) (sqKept (arg15.view.read (Elt F) (harg15.unread xs6))) [] := by
  sl_kernel_rfl

/-- What a middle point leaves in the accumulated squares. -/
theorem squares : sout0_B_6 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 xs0 xs4 xs5 xs6 = sqBlock (tile xs0 x0 x2) x0 xs6 := by
  unfold sout0_B_6
  rw [View.read_writes_junk_eq_canon, squares_list]
  funext y
  rw [canon_sqKept, tileRaw_eq, harg2.read_unread, harg4.read_unread, harg9.read_unread, harg15.read_unread]
  rfl

end Cert.KernelIdeal.Block.CaseB
-- ==== Proof.CaseC.lean ====
/-
  The last point of a sweep: what it writes.
-/
module

public import proofs.«01_k».proof.Proof.Point
public import proofs.«01_k».proof.Proof.Gen.KernelIdeal.Frame

@[expose] public section

set_option maxRecDepth 16384

noncomputable section

namespace Cert.KernelIdeal.Block.CaseC

open Idealize.ShloMosaic Idealize.ShloMosaic.TcCoe Idealize.SL.Sem
open Cert.KernelIdeal Cert.KernelIdeal.Gen Cert.Nf4

variable {F : FTy → Type} [FloatOps F] (c : Dev nD) (i : grid0.Coords)
    (arg2 : Memref sig .tc .vmem S1x512x512 .bf16) (harg2 : arg2.IsWhole)
    (arg3 : Memref sig .tc .vmem S1x512x640 .f32) (harg3 : arg3.IsWhole)
    (arg4 : Memref sig .tc .vmem S1x512x640 .f32) (harg4 : arg4.IsWhole)
    (arg5 : Memref sig .tc .vmem S1x512x640 .f32) (harg5 : arg5.IsWhole)
    (arg6 : Memref sig .tc .vmem S1x512x1 .f32) (harg6 : arg6.IsWhole)
    (arg7 : Memref sig .tc .vmem S1x256x512 .i8) (harg7 : arg7.IsWhole)
    (arg8 : Memref sig .tc .vmem S1x8x512 .f32) (harg8 : arg8.IsWhole)
    (arg9 : Memref sig .tc .vmem S512x1920 .bf16) (harg9 : arg9.IsWhole)
    (arg10 : Memref sig .tc .vmem S1920x512 .bf16) (harg10 : arg10.IsWhole)
    (arg11 : Memref sig .tc .vmem S512x512 .f32) (harg11 : arg11.IsWhole)
    (arg12 : Memref sig .tc .vmem S1536x512 .bf16) (harg12 : arg12.IsWhole)
    (arg13 : Memref sig .tc .vmem S640x512 .f32) (harg13 : arg13.IsWhole)
    (arg14 : Memref sig .tc .vmem S640x640 .f32) (harg14 : arg14.IsWhole)
    (arg15 : Memref sig .tc .vmem S512x128 .f32) (harg15 : arg15.IsWhole)
    (hc0 : ¬cond0_0 i) (hc1 : cond0_1 i)
    (x0 : Vec F S1x512x512 .bf16) (x1 : Vec F S1x512x640 .f32) (x2 : Vec F S1x512x640 .f32)
    (xs0 : Vec F S512x1920 .bf16) (xs4 : Vec F S640x512 .f32) (xs5 : Vec F S640x640 .f32) (xs6 : Vec F S512x128 .f32)

/-- The stores of codes at a sweep's last point, as one list over the blocks. -/
theorem bytes_list : (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 xs0 xs4 xs5 xs6).2.2.1 = rows (byteStore arg11.view (tileRaw (arg9.view.read (Elt F) (harg9.unread xs0)) arg10.view (arg2.view.read (Elt F) (harg2.unread x0)) (arg4.view.read (Elt F) (harg4.unread x2)))) := by
  sl_kernel_rfl

/-- The codes a last point leaves are the tile's. -/
theorem bytes : out0_C_5 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 xs0 xs4 xs5 xs6 = byteBlock (tile xs0 x0 x2) := by
  unfold out0_C_5
  rw [View.read_writes_junk_eq_canon, bytes_list]
  funext y
  rw [canon_bytes, tileRaw_eq, harg2.read_unread, harg4.read_unread, harg9.read_unread]

/-- The stores of scales at a sweep's last point, as one list over the blocks. -/
theorem scales_list : (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 xs0 xs4 xs5 xs6).2.2.2.1 = rows (scaleStore arg11.view (tileRaw (arg9.view.read (Elt F) (harg9.unread xs0)) arg10.view (arg2.view.read (Elt F) (harg2.unread x0)) (arg4.view.read (Elt F) (harg4.unread x2)))) := by
  sl_kernel_rfl

/-- The scales a last point leaves are the tile's. -/
theorem scales : out0_C_6 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 xs0 xs4 xs5 xs6 = scaleBlock (tile xs0 x0 x2) := by
  unfold out0_C_6
  rw [View.read_writes_junk_eq_canon, scales_list]
  funext y
  rw [canon_scales, tileRaw_eq, harg2.read_unread, harg4.read_unread, harg9.read_unread]
  rfl

/-- The stores to the accumulator of the new left factor at a sweep's last point. -/
theorem acc_list : (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 xs0 xs4 xs5 xs6).2.2.2.2.2.1 = [(⟨accRect, accRaw arg10.view arg11.view arg12.view (tileRaw (arg9.view.read (Elt F) (harg9.unread xs0)) arg10.view (arg2.view.read (Elt F) (harg2.unread x0)) (arg4.view.read (Elt F) (harg4.unread x2))) (arg2.view.read (Elt F) (harg2.unread x0)) (arg4.view.read (Elt F) (harg4.unread x2)) (View.ld (arg13.view.read (Elt F) (harg13.unread xs4)) accRect)⟩ : View.Piece (Elt F) S640x512 .f32)] := by
  sl_kernel_rfl

/-- What a last point leaves in the accumulator of the new left factor. -/
theorem acc : sout0_C_4 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 xs0 xs4 xs5 xs6 = accStep (tile xs0 x0 x2) x0 x2 xs4 := by
  unfold sout0_C_4
  rw [View.read_writes_junk_eq_canon, acc_list, canon_acc, accRaw_eq, tileRaw_eq, harg2.read_unread, harg4.read_unread, harg9.read_unread, ld_acc, harg13.read_unread]

/-- The stores to the Gram accumulator at a sweep's last point. -/
theorem gram_list : (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 xs0 xs4 xs5 xs6).2.2.2.2.2.2.1 = [(⟨gramRect, gramRaw arg10.view (arg4.view.read (Elt F) (harg4.unread x2)) (View.ld (arg14.view.read (Elt F) (harg14.unread xs5)) gramRect)⟩ : View.Piece (Elt F) S640x640 .f32)] := by
  sl_kernel_rfl

/-- What a last point leaves in the Gram accumulator. -/
theorem gram : sout0_C_5 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 xs0 xs4 xs5 xs6 = gramStep x2 xs5 := by
  unfold sout0_C_5
  rw [View.read_writes_junk_eq_canon, gram_list, canon_gram, gramRaw_eq, harg4.read_unread, ld_gram, harg14.read_unread]

/-- The stores to the accumulated squares at a sweep's last point, as one list over the blocks. -/
theorem squares_list : (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 xs0 xs4 xs5 xs6).2.2.2.2.2.2.2.1 = sqAll arg15.view arg11.view (tileRaw (arg9.view.read (Elt F) (harg9.unread xs0)) arg10.view (arg2.view.read (Elt F) (harg2.unread x0)) (arg4.view.read (Elt F) (harg4.unread x2))) (arg2.view.read (Elt F) (harg2.unread x0)) (sqKept (arg15.view.read (Elt F) (harg15.unread xs6))) [] := by
  sl_kernel_rfl

/-- What a last point leaves in the accumulated squares. -/
theorem squares : sout0_C_6 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 xs0 xs4 xs5 xs6 = sqBlock (tile xs0 x0 x2) x0 xs6 := by
  unfold sout0_C_6
  rw [View.read_writes_junk_eq_canon, squares_list]
  funext y
  rw [canon_sqKept, tileRaw_eq, harg2.read_unread, harg4.read_unread, harg9.read_unread, harg15.read_unread]
  rfl

/-- The store of the new left factor at a sweep's last point. -/
theorem factor_list : (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 xs0 xs4 xs5 xs6).1 = [(⟨Rect.unit (s := S1x512x640) ![0, 0, 0] S1x512x640.size inb_S1x512x640_S1x512x640_0_0_0, k0_pay4 (arg13.view.readCov ([(⟨accRect, accRaw arg10.view arg11.view arg12.view (tileRaw (arg9.view.read (Elt F) (harg9.unread xs0)) arg10.view (arg2.view.read (Elt F) (harg2.unread x0)) (arg4.view.read (Elt F) (harg4.unread x2))) (arg2.view.read (Elt F) (harg2.unread x0)) (arg4.view.read (Elt F) (harg4.unread x2)) (View.ld (arg13.view.read (Elt F) (harg13.unread xs4)) accRect)⟩ : View.Piece (Elt F) S640x512 .f32)]) accRect.toLoadRect)⟩ : View.Piece (Elt F) S1x512x640 .f32)] := by
  sl_kernel_rfl

/-- The new left factor a last point leaves, from the accumulator. -/
theorem factor : out0_C_3 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 xs0 xs4 xs5 xs6 = k0_pay4 (accStep (tile xs0 x0 x2) x0 x2 xs4) := by
  unfold out0_C_3
  rw [View.read_writes_junk_eq_canon, factor_list, readCov_ld, ld_top, canon_factor, accRaw_eq, tileRaw_eq, harg2.read_unread, harg4.read_unread, harg9.read_unread, ld_acc, harg13.read_unread]

/-- The store of the squared lengths at a sweep's last point. -/
theorem norm_list : (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 xs0 xs4 xs5 xs6).2.1 = [(⟨Rect.unit (s := S1x512x1) ![0, 0, 0] S1x512x1.size inb_S1x512x1_S1x512x1_0_0_0, k0_pay2 (k0_pay5 (arg13.view.readCov ([(⟨accRect, accRaw arg10.view arg11.view arg12.view (tileRaw (arg9.view.read (Elt F) (harg9.unread xs0)) arg10.view (arg2.view.read (Elt F) (harg2.unread x0)) (arg4.view.read (Elt F) (harg4.unread x2))) (arg2.view.read (Elt F) (harg2.unread x0)) (arg4.view.read (Elt F) (harg4.unread x2)) (View.ld (arg13.view.read (Elt F) (harg13.unread xs4)) accRect)⟩ : View.Piece (Elt F) S640x512 .f32)]) accRect.toLoadRect) (arg14.view.readCov ([(⟨gramRect, gramRaw arg10.view (arg4.view.read (Elt F) (harg4.unread x2)) (View.ld (arg14.view.read (Elt F) (harg14.unread xs5)) gramRect)⟩ : View.Piece (Elt F) S640x640 .f32)]) gramRect.toLoadRect) (arg15.view.readCov (sqAll arg15.view arg11.view (tileRaw (arg9.view.read (Elt F) (harg9.unread xs0)) arg10.view (arg2.view.read (Elt F) (harg2.unread x0)) (arg4.view.read (Elt F) (harg4.unread x2))) (arg2.view.read (Elt F) (harg2.unread x0)) (sqKept (arg15.view.read (Elt F) (harg15.unread xs6))) []) sqWhole.toLoadRect))⟩ : View.Piece (Elt F) S1x512x1 .f32)] := by
  sl_kernel_rfl

/-- The squared lengths a last point leaves, from the three accumulators. -/
theorem norm : out0_C_4 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 xs0 xs4 xs5 xs6 = k0_pay2 (k0_pay5 (accStep (tile xs0 x0 x2) x0 x2 xs4) (gramStep x2 xs5) (sqBlock (tile xs0 x0 x2) x0 xs6)) := by
  unfold out0_C_4
  rw [View.read_writes_junk_eq_canon, norm_list, readCov_ld, readCov_ld, readCov_ld, ld_top, ld_top, canon_norm, ld_sq, accRaw_eq, gramRaw_eq, canon_squares, tileRaw_eq, harg2.read_unread, harg4.read_unread, harg9.read_unread, ld_acc, ld_gram, harg13.read_unread, harg14.read_unread, harg15.read_unread]

end Cert.KernelIdeal.Block.CaseC
-- ==== Proof.Sweep.lean ====
/-
  The sweep over the grid: what each point leaves, by induction on the points.
-/
module

public import proofs.«01_k».proof.Proof.Steps
public import proofs.«01_k».proof.Proof.CaseA
public import proofs.«01_k».proof.Proof.CaseB
public import proofs.«01_k».proof.Proof.CaseC
public import proofs.«01_k».proof.Proof.Gen.KernelIdeal.Value

@[expose] public section

set_option maxRecDepth 16384

noncomputable section

namespace Cert.KernelIdeal.Sweep

open Idealize.ShloMosaic Idealize.ShloMosaic.TcCoe Idealize.SL.Sem
open Cert.KernelIdeal Cert.KernelIdeal.Gen Cert.KernelIdeal.Value Cert.KernelIdeal.Block Cert.KernelIdeal.Tiles Cert.Nf4

variable (m : (ℓ : Loc nD τ sig) → Buf (Elt Ideal) ℓ) (c : Dev nD)

/-- The arguments, read by coordinates. -/
abbrev argW (p : Fin 2) (s : Fin 512) (d : Fin 18432) : EReal := m ((c.tc : Thread nD τ).loc main_arg0) (ix3 p s d)
/-- The left factor. -/
abbrev argA (p : Fin 2) (s : Fin 512) (k : Fin 640) : EReal := m ((c.tc : Thread nD τ).loc main_arg1) (ix3 p s k)
/-- The right factor. -/
abbrev argB (p : Fin 2) (d : Fin 18432) (k : Fin 640) : EReal := m ((c.tc : Thread nD τ).loc main_arg2) (ix3 p d k)

/-! ## The blocks a point reads -/

/-- The blocks' places, over the grid's points. -/
theorem idx : ∀ t : Fin cfg0.N, win0_0.index t = ![t.val / 36, 0, t.val % 36] ∧ win0_1.index t = ![t.val / 36, 0, 0]
    ∧ win0_2.index t = ![t.val / 36, t.val % 36, 0] :=
  (by decide +kernel : ∀ t : Fin grid0.N, _)

/-- The block of weights a point reads. -/
theorem blkW (t : Fin cfg0.N) (s l : Fin 512) (p : Fin 2) (d : Fin 18432) (hp : p.val = t.val / 36) (hd : d.val = 512 * (t.val % 36) + l.val) :
    iblk m c 0 t (ix3 (0 : Fin 1) s l) = m ((c.tc : Thread nD τ).loc main_arg0) (ix3 p s d) := by
  blk_ext [iblk, V, idx t]

/-- The block of the left factor a point reads. -/
theorem blkA (t : Fin cfg0.N) (s : Fin 512) (k : Fin 640) (p : Fin 2) (hp : p.val = t.val / 36) :
    iblk m c 1 t (ix3 (0 : Fin 1) s k) = m ((c.tc : Thread nD τ).loc main_arg1) (ix3 p s k) := by
  blk_ext [iblk, V, idx t]

/-- The block of the right factor a point reads. -/
theorem blkB (t : Fin cfg0.N) (l : Fin 512) (k : Fin 640) (p : Fin 2) (d : Fin 18432) (hp : p.val = t.val / 36) (hd : d.val = 512 * (t.val % 36) + l.val) :
    iblk m c 2 t (ix3 (0 : Fin 1) l k) = m ((c.tc : Thread nD τ).loc main_arg2) (ix3 p d k) := by
  blk_ext [iblk, V, idx t]

/-- A point's blocks hold its batch and its columns of the arguments. -/
theorem reads (t : Fin cfg0.N) (p : Fin 2) (hp : p.val = t.val / 36) :
    Reads (argW m c) (argB m c) p (colOf (t.val % 36)) (iblk m c 0 t) (iblk m c 2 t) where
  weights s l := blkW m c t s l p _ hp (colOf_val _ _ (Nat.mod_lt _ (by decide)))
  right l k := blkB m c t l k p _ hp (colOf_val _ _ (Nat.mod_lt _ (by decide)))

/-! ## One point -/

/-- What a point leaves: its four blocks of results and its scratch arrays. -/
abbrev State : Type := Vec Ideal S1x512x640 .f32 × Vec Ideal S1x512x1 .f32 × Vec Ideal S1x256x512 .i8 × Vec Ideal S1x8x512 .f32
  × Vec Ideal S512x1920 .bf16 × Vec Ideal S640x512 .f32 × Vec Ideal S640x640 .f32 × Vec Ideal S512x128 .f32

/-- A point's state holds what block `j` of batch `p` should leave. -/
def Good (p : Fin 2) (j : ℕ) (x : State) : Prop :=
  Held (argW m c) (argA m c) (argB m c) p j x.2.2.1 x.2.2.2.1 x.2.2.2.2.1 x.2.2.2.2.2.1 x.2.2.2.2.2.2.1 x.2.2.2.2.2.2.2

/-- A sweep's last state holds the finished results of batch `p`. -/
def Finished (p : Fin 2) (x : State) : Prop :=
  (∀ s k, x.1 (ix3 0 s k) = fac (argW m c) (argA m c) (argB m c) p s k) ∧ ∀ s, x.2.1 (ix3 0 s 0) = nrm (argW m c) (argA m c) (argB m c) p s

/-- What the first point of a sweep leaves. -/
theorem state_first (t : Fin cfg0.N) (acc : State) (h0 : t.val % 36 = 0) : ∃ o3 o4, stAt0 m c t.val t.isLt acc
    = (o3, o4, byteBlock (tile (leftParts (iblk m c 1 t)) (iblk m c 0 t) (iblk m c 2 t)),
      scaleBlock (tile (leftParts (iblk m c 1 t)) (iblk m c 0 t) (iblk m c 2 t)), leftParts (iblk m c 1 t),
      accStep (tile (leftParts (iblk m c 1 t)) (iblk m c 0 t) (iblk m c 2 t)) (iblk m c 0 t) (iblk m c 2 t) (k0_pay13 (F := Ideal)),
      gramStep (iblk m c 2 t) (k0_pay14 (F := Ideal)),
      sqBlock (tile (leftParts (iblk m c 1 t)) (iblk m c 0 t) (iblk m c 2 t)) (iblk m c 0 t) (constant (F := Ideal) S512x128 .f32 0x00000000#32)) :=
  ⟨_, _, (stAt0_A m c t acc h0 (by omega)).trans (congrArg (Prod.mk _) (congrArg (Prod.mk _) (congrArg₂ Prod.mk (CaseA.bytes ..)
    (congrArg₂ Prod.mk (CaseA.scales ..) (congrArg₂ Prod.mk (CaseA.parts ..) (congrArg₂ Prod.mk (CaseA.acc ..)
      (congrArg₂ Prod.mk (CaseA.gram ..) (CaseA.squares ..))))))))⟩

/-- What a middle point leaves, over the state `acc` before it. -/
theorem state_middle (t : Fin cfg0.N) (acc : State) (h0 : ¬t.val % 36 = 0) (h1 : ¬t.val % 36 = 35) : ∃ o3 o4, stAt0 m c t.val t.isLt acc
    = (o3, o4, byteBlock (tile acc.2.2.2.2.1 (iblk m c 0 t) (iblk m c 2 t)),
      scaleBlock (tile acc.2.2.2.2.1 (iblk m c 0 t) (iblk m c 2 t)), acc.2.2.2.2.1,
      accStep (tile acc.2.2.2.2.1 (iblk m c 0 t) (iblk m c 2 t)) (iblk m c 0 t) (iblk m c 2 t) acc.2.2.2.2.2.1,
      gramStep (iblk m c 2 t) acc.2.2.2.2.2.2.1,
      sqBlock (tile acc.2.2.2.2.1 (iblk m c 0 t) (iblk m c 2 t)) (iblk m c 0 t) acc.2.2.2.2.2.2.2) :=
  ⟨_, _, (stAt0_B m c t acc h0 h1).trans (congrArg (Prod.mk _) (congrArg (Prod.mk _) (congrArg₂ Prod.mk (CaseB.bytes ..)
    (congrArg₂ Prod.mk (CaseB.scales ..) (congrArg₂ Prod.mk rfl (congrArg₂ Prod.mk (CaseB.acc ..)
      (congrArg₂ Prod.mk (CaseB.gram ..) (CaseB.squares ..))))))))⟩

/-- What a sweep's last point leaves, over the state `acc` before it. -/
theorem state_last (t : Fin cfg0.N) (acc : State) (h0 : ¬t.val % 36 = 0) (h1 : t.val % 36 = 35) : stAt0 m c t.val t.isLt acc
    = (k0_pay4 (accStep (tile acc.2.2.2.2.1 (iblk m c 0 t) (iblk m c 2 t)) (iblk m c 0 t) (iblk m c 2 t) acc.2.2.2.2.2.1),
      k0_pay2 (k0_pay5 (accStep (tile acc.2.2.2.2.1 (iblk m c 0 t) (iblk m c 2 t)) (iblk m c 0 t) (iblk m c 2 t) acc.2.2.2.2.2.1) (gramStep (iblk m c 2 t) acc.2.2.2.2.2.2.1)
        (sqBlock (tile acc.2.2.2.2.1 (iblk m c 0 t) (iblk m c 2 t)) (iblk m c 0 t) acc.2.2.2.2.2.2.2)),
      byteBlock (tile acc.2.2.2.2.1 (iblk m c 0 t) (iblk m c 2 t)),
      scaleBlock (tile acc.2.2.2.2.1 (iblk m c 0 t) (iblk m c 2 t)), acc.2.2.2.2.1,
      accStep (tile acc.2.2.2.2.1 (iblk m c 0 t) (iblk m c 2 t)) (iblk m c 0 t) (iblk m c 2 t) acc.2.2.2.2.2.1,
      gramStep (iblk m c 2 t) acc.2.2.2.2.2.2.1,
      sqBlock (tile acc.2.2.2.2.1 (iblk m c 0 t) (iblk m c 2 t)) (iblk m c 0 t) acc.2.2.2.2.2.2.2) :=
  (stAt0_C m c t acc h0 h1).trans (congrArg₂ Prod.mk (CaseC.factor ..) (congrArg₂ Prod.mk (CaseC.norm ..) (congrArg₂ Prod.mk (CaseC.bytes ..)
    (congrArg₂ Prod.mk (CaseC.scales ..) (congrArg₂ Prod.mk rfl (congrArg₂ Prod.mk (CaseC.acc ..)
      (congrArg₂ Prod.mk (CaseC.gram ..) (CaseC.squares ..))))))))

/-- A state that holds what it should, part by part. -/
theorem good_mk (p : Fin 2) (j : ℕ) (o3 : Vec Ideal S1x512x640 .f32) (o4 : Vec Ideal S1x512x1 .f32) (o5 : Vec Ideal S1x256x512 .i8) (o6 : Vec Ideal S1x8x512 .f32)
    (x0 : Vec Ideal S512x1920 .bf16) (x4 : Vec Ideal S640x512 .f32) (x5 : Vec Ideal S640x640 .f32) (x6 : Vec Ideal S512x128 .f32)
    (h : Held (argW m c) (argA m c) (argB m c) p j o5 o6 x0 x4 x5 x6) : Good m c p j (o3, o4, o5, o6, x0, x4, x5, x6) := h

variable (hw : ∀ p s d, Fin' (argW m c p s d)) (ha : ∀ p s k, Fin' (argA m c p s k)) (hb : ∀ p d k, Fin' (argB m c p d k))
include hw ha hb

/-- The first point of a sweep. -/
theorem step_first (t : Fin cfg0.N) (acc : State) (p : Fin 2) (hp : p.val = t.val / 36) (h0 : t.val % 36 = 0) :
    Good m c p (t.val % 36) (stAt0 m c t.val t.isLt acc) := by
  have hS := sums_zero (argW m c) (argA m c) (argB m c) p
  have hA := parts_of (argA m c) ha p (iblk m c 1 t) (fun s k => blkA m c t s k p hp)
  have hR := reads m c t p hp
  rw [h0] at hR ⊢
  have h := held_step (argW m c) (argA m c) (argB m c) hw ha hb hA hR hS
  obtain ⟨o3, o4, e⟩ := state_first m c t acc h0
  rw [e]
  refine good_mk m c _ _ _ _ _ _ _ _ _ _ ?_
  exact h

/-- A later point, over the state before it. -/
theorem step_later (t : Fin cfg0.N) (acc : State) (p : Fin 2) (hp : p.val = t.val / 36) (h0 : ¬t.val % 36 = 0)
    (hG : Good m c p (t.val % 36 - 1) acc) :
    Good m c p (t.val % 36) (stAt0 m c t.val t.isLt acc)
      ∧ (t.val % 36 = 35 → Finished m c p (stAt0 m c t.val t.isLt acc)) := by
  have hS := hG.sums
  rw [Nat.sub_add_cancel (Nat.one_le_iff_ne_zero.2 h0)] at hS
  have h := held_step (argW m c) (argA m c) (argB m c) hw ha hb hG.parts (reads m c t p hp) hS
  by_cases h1 : t.val % 36 = 35
  · rw [state_last m c t acc h0 h1]
    have hE := h.sums
    rw [h1] at hE
    exact ⟨h, fun _ => ⟨fun s k => factor_end (argW m c) (argA m c) (argB m c) hw ha hb hE s k,
      fun s => norm_end (argW m c) (argA m c) (argB m c) hw ha hb hE s⟩⟩
  · obtain ⟨o3, o4, e⟩ := state_middle m c t acc h0 h1
    rw [e]
    exact ⟨h, fun h' => absurd h' h1⟩

/-! ## All points -/

/-- Every point leaves the quantisation of its columns, and accumulators that hold the sums so far. -/
theorem good_at (n : ℕ) : ∀ (hn : n < cfg0.N) (p : Fin 2), p.val = n / 36 → Good m c p (n % 36) (outsAt0 m c n hn) := by
  induction n with
  | zero =>
    intro hn p hp
    rw [outsAt0_zero m c hn]
    exact step_first m c hw ha hb ⟨0, hn⟩ junk0 p hp rfl
  | succ n ih =>
    intro hn p hp
    rw [outsAt0_succ m c n hn]
    by_cases h0 : (n + 1) % 36 = 0
    · exact step_first m c hw ha hb ⟨n + 1, hn⟩ _ p hp h0
    · refine (step_later m c hw ha hb ⟨n + 1, hn⟩ _ p hp h0 ?_).1
      have h := ih (Nat.lt_of_succ_lt hn) p (by omega)
      rw [show n % 36 = (n + 1) % 36 - 1 by omega] at h
      exact h

/-- The last point of a sweep leaves the finished results. -/
theorem finished_at (n : ℕ) (hn : n < cfg0.N) (p : Fin 2) (hp : p.val = n / 36) (h1 : n % 36 = 35) : Finished m c p (outsAt0 m c n hn) := by
  obtain ⟨k, rfl⟩ : ∃ k, n = k + 1 := ⟨n - 1, by omega⟩
  rw [outsAt0_succ m c k hn]
  refine (step_later m c hw ha hb ⟨k + 1, hn⟩ _ p hp (show ¬(k + 1) % 36 = 0 by omega) ?_).2 h1
  have h := good_at m c hw ha hb k (Nat.lt_of_succ_lt hn) p (by omega)
  rw [show k % 36 = (k + 1) % 36 - 1 by omega] at h
  exact h

end Cert.KernelIdeal.Sweep
-- ==== Proof.Values.lean ====
/-
  The kernel's results, element by element.
-/
module

public import proofs.«01_k».proof.Proof.Sweep

@[expose] public section

set_option maxRecDepth 16384

noncomputable section

namespace Cert.KernelIdeal.Sweep

open Idealize.ShloMosaic Idealize.ShloMosaic.TcCoe Idealize.SL.Sem
open Cert.KernelIdeal Cert.KernelIdeal.Gen Cert.KernelIdeal.Value Cert.KernelIdeal.Block Cert.KernelIdeal.Tiles Cert.Nf4

variable (m : (ℓ : Loc nD τ sig) → Buf (Elt Ideal) ℓ) (c : Dev nD)
variable (hw : ∀ p s d, Fin' (argW m c p s d)) (ha : ∀ p s k, Fin' (argA m c p s k)) (hb : ∀ p d k, Fin' (argB m c p d k))

/-- The column of a place in its block. -/
theorem col_eq (n : ℕ) (d : Fin 18432) (h : n % 36 = d.val / 512) : colOf (n % 36) ⟨d.val % 512, Nat.mod_lt _ (by decide)⟩ = d := by
  refine Fin.ext ?_
  rw [colOf_val _ _ (Nat.mod_lt _ (by decide)), h]
  exact Nat.div_add_mod _ _

include hw ha hb

/-- The kernel's packed codes. -/
theorem bytes_val (p : Fin 2) (i : Fin 256) (d : Fin 18432) : G5 m c (ix3 p i d) = byt (argW m c) (argA m c) (argB m c) p i d := by
  have hn : pt5Of (ix3 p i d) = 36 * p.val + d.val / 512 := by
    show 36 * (p.val / 1 - 0) + 36 * (i.val / 256 - 0) + 1 * (d.val / 512 - 0) = _
    omega
  have h : pt5Of (ix3 p i d) < cfg0.N := by rw [hn, show cfg0.N = 72 from N_0]; omega
  have hl : loc5Of (ix3 p i d) = ix3 (0 : Fin 1) i (⟨d.val % 512, Nat.mod_lt _ (by decide)⟩ : Fin 512) := by
    funext a
    match a with
    | ⟨0, _⟩ => exact Fin.ext (show p.val % 1 = 0 by omega)
    | ⟨1, _⟩ => exact Fin.ext (show i.val % 256 = i.val by omega)
    | ⟨2, _⟩ => rfl
  unfold G5
  rw [dif_pos h, ← outsAt0_sweep m c _ h, hl]
  have hG := (good_at m c hw ha hb _ h p (by rw [hn]; omega)).bytes i ⟨d.val % 512, Nat.mod_lt _ (by decide)⟩
  rw [col_eq _ d (by rw [hn]; omega)] at hG
  exact hG

/-- The kernel's scales. -/
theorem scales_val (p : Fin 2) (g : Fin 8) (d : Fin 18432) : G6 m c (ix3 p g d) = sc (argW m c) (argA m c) (argB m c) p g d := by
  have hn : pt6Of (ix3 p g d) = 36 * p.val + d.val / 512 := by
    show 36 * (p.val / 1 - 0) + 36 * (g.val / 8 - 0) + 1 * (d.val / 512 - 0) = _
    omega
  have h : pt6Of (ix3 p g d) < cfg0.N := by rw [hn, show cfg0.N = 72 from N_0]; omega
  have hl : loc6Of (ix3 p g d) = ix3 (0 : Fin 1) g (⟨d.val % 512, Nat.mod_lt _ (by decide)⟩ : Fin 512) := by
    funext a
    match a with
    | ⟨0, _⟩ => exact Fin.ext (show p.val % 1 = 0 by omega)
    | ⟨1, _⟩ => exact Fin.ext (show g.val % 8 = g.val by omega)
    | ⟨2, _⟩ => rfl
  unfold G6
  rw [dif_pos h, ← outsAt0_sweep m c _ h, hl]
  have hG := (good_at m c hw ha hb _ h p (by rw [hn]; omega)).scales g ⟨d.val % 512, Nat.mod_lt _ (by decide)⟩
  rw [col_eq _ d (by rw [hn]; omega)] at hG
  exact hG

/-- The kernel's new left factor. -/
theorem factor_val (p : Fin 2) (s : Fin 512) (k : Fin 640) : G3 m c (ix3 p s k) = fac (argW m c) (argA m c) (argB m c) p s k := by
  have hn : pt3Of (ix3 p s k) = 36 * p.val + 35 := by
    show 36 * (1 * (p.val / 1 - 0) + 1 * (s.val / 512 - 0) + 1 * (k.val / 640 - 0)) + 35 = _
    omega
  have h : pt3Of (ix3 p s k) < cfg0.N := by rw [hn, show cfg0.N = 72 from N_0]; omega
  have hl : loc3Of (ix3 p s k) = ix3 (0 : Fin 1) s k := by
    funext a
    match a with
    | ⟨0, _⟩ => exact Fin.ext (show p.val % 1 = 0 by omega)
    | ⟨1, _⟩ => exact Fin.ext (show s.val % 512 = s.val by omega)
    | ⟨2, _⟩ => exact Fin.ext (show k.val % 640 = k.val by omega)
  unfold G3
  rw [dif_pos h, ← outsAt0_sweep m c _ h, hl]
  exact (finished_at m c hw ha hb _ h p (by rw [hn]; omega) (by rw [hn]; omega)).1 s k

/-- The kernel's squared lengths. -/
theorem norm_val (p : Fin 2) (s : Fin 512) : G4 m c (ix3 p s (0 : Fin 1)) = nrm (argW m c) (argA m c) (argB m c) p s := by
  have hn : pt4Of (ix3 p s (0 : Fin 1)) = 36 * p.val + 35 := by
    show 36 * (1 * (p.val / 1 - 0) + 1 * (s.val / 512 - 0) + 1 * (0 / 1 - 0)) + 35 = _
    omega
  have h : pt4Of (ix3 p s (0 : Fin 1)) < cfg0.N := by rw [hn, show cfg0.N = 72 from N_0]; omega
  have hl : loc4Of (ix3 p s (0 : Fin 1)) = ix3 (0 : Fin 1) s (0 : Fin 1) := by
    funext a
    match a with
    | ⟨0, _⟩ => exact Fin.ext (show p.val % 1 = 0 by omega)
    | ⟨1, _⟩ => exact Fin.ext (show s.val % 512 = s.val by omega)
    | ⟨2, _⟩ => rfl
  unfold G4
  rw [dif_pos h, ← outsAt0_sweep m c _ h, hl]
  exact (finished_at m c hw ha hb _ h p (by rw [hn]; omega) (by rw [hn]; omega)).2 s

end Cert.KernelIdeal.Sweep
-- ==== Proof.Results.lean ====
/-
  The reference's result arrays, read element by element.
-/
module

public import proofs.«01_k».proof.Proof.Spec
public import proofs.«01_k».proof.Proof.Gen.ReferenceIdeal.Run
public import Idealize.ShloMosaic.Lib.Pointwise

@[expose] public section

set_option maxRecDepth 16384

noncomputable section

namespace Cert.ReferenceIdeal.Results

open Idealize.ShloMosaic Idealize.ShloMosaic.TcCoe Idealize.SL.Sem
open Cert.ReferenceIdeal Cert.ReferenceIdeal.Gen Cert.ReferenceIdeal.Value Cert.Nf4

/-! ## The words -/

section
variable {F : FTy → Type} [FloatOps F]

/-- A code, by row pair and row of the pair, is the count of midpoints below the scaled number. -/
theorem v73_at (V : Valuation τ sig (Elt F)) (p : Fin 2) (i : Fin 256) (j : Fin 2) (d : Fin 18432) :
    res_main_v73 V (ix4 p i j d) = count (res_main_v11 V (ix4 p (⟨i.val / 32, by omega⟩ : Fin 8) (⟨2 * (i.val % 32) + j.val, by omega⟩ : Fin 64) d)) := by
  unfold res_main_v73
  refine (shapeCast_apply _ shapeCasts_S2x8x64x18432_S2x256x2x18432 (ix4 p i j d) (ix4 p (⟨i.val / 32, by omega⟩ : Fin 8) (⟨2 * (i.val % 32) + j.val, by omega⟩ : Fin 64) d) ?_).trans ?_
  · rw [Shape.rowMajor_val_four, Shape.rowMajor_val_four]
    show ((p.val * 8 + i.val / 32) * 64 + (2 * (i.val % 32) + j.val)) * 18432 + d.val = ((p.val * 256 + i.val) * 2 + j.val) * 18432 + d.val
    omega
  · rfl

/-- A packed byte holds the codes of its two rows. -/
theorem v82_at (V : Valuation τ sig (Elt F)) (p : Fin 2) (i : Fin 256) (d : Fin 18432) :
    res_main_v82_0 V (ix3 p i d) = byteOf (res_main_v73 V (ix4 p i (0 : Fin 2) d)) (res_main_v73 V (ix4 p i (1 : Fin 2) d)) := by
  have e0 : shapeCast S2x256x18432 (extractStridedSlice S2x256x1x18432 ![0, 0, 0, 0] (res_main_v73 V) slices_S2x256x2x18432_S2x256x1x18432_0_0_0_0) shapeCasts_S2x256x1x18432_S2x256x18432 (ix3 p i d)
      = res_main_v73 V (ix4 p i (0 : Fin 2) d) := by
    refine (shapeCast_apply _ _ (ix3 p i d) (ix4 p i (0 : Fin 1) d) ?_).trans ?_
    · rw [Shape.rowMajor_val_four, Shape.rowMajor_val_three]
      show ((p.val * 256 + i.val) * 1 + 0) * 18432 + d.val = (p.val * 256 + i.val) * 18432 + d.val
      omega
    · refine extractStridedSlice_apply _ _ _ _ (ix4 p i (0 : Fin 2) d) ?_
      intro a
      match a with
      | ⟨0, _⟩ => exact (Nat.zero_add _).symm
      | ⟨1, _⟩ => exact (Nat.zero_add _).symm
      | ⟨2, _⟩ => rfl
      | ⟨3, _⟩ => exact (Nat.zero_add _).symm
  have e1 : shapeCast S2x256x18432 (extractStridedSlice S2x256x1x18432 ![0, 0, 1, 0] (res_main_v73 V) slices_S2x256x2x18432_S2x256x1x18432_0_0_1_0) shapeCasts_S2x256x1x18432_S2x256x18432 (ix3 p i d)
      = res_main_v73 V (ix4 p i (1 : Fin 2) d) := by
    refine (shapeCast_apply _ _ (ix3 p i d) (ix4 p i (0 : Fin 1) d) ?_).trans ?_
    · rw [Shape.rowMajor_val_four, Shape.rowMajor_val_three]
      show ((p.val * 256 + i.val) * 1 + 0) * 18432 + d.val = (p.val * 256 + i.val) * 18432 + d.val
      omega
    · refine extractStridedSlice_apply _ _ _ _ (ix4 p i (1 : Fin 2) d) ?_
      intro a
      match a with
      | ⟨0, _⟩ => exact (Nat.zero_add _).symm
      | ⟨1, _⟩ => exact (Nat.zero_add _).symm
      | ⟨2, _⟩ => rfl
      | ⟨3, _⟩ => exact (Nat.zero_add _).symm
  rw [← e0, ← e1]
  rfl
/-- A scaled number is the number over its group's scale. -/
theorem v11_at (V : Valuation τ sig (Elt F)) (p : Fin 2) (g : Fin 8) (i : Fin 64) (d : Fin 18432) :
    res_main_v11 V (ix4 p g i d) = FloatOps.hostDivf (res_main_v3 V (ix4 p g i d)) (res_main_v8 V (ix3 p g d)) := by
  have e : broadcastInDim S2x8x64x18432 ![0, 1, 2, 3] bcast_S2x8x1x18432_S2x8x64x18432_0_1_2_3
      (broadcastInDim S2x8x1x18432 ![0, 1, 3] bcast_S2x8x18432_S2x8x1x18432_0_1_3 (res_main_v8 V)) (ix4 p g i d) = res_main_v8 V (ix3 p g d) := by
    refine (broadcastInDim_apply _ _ _ (ix4 p g i d) (ix4 p g (0 : Fin 1) d) fun a => ?_).trans
      (broadcastInDim_apply _ _ _ (ix4 p g (0 : Fin 1) d) (ix3 p g d) fun a => ?_)
    · match a with
      | ⟨0, _⟩ => rfl
      | ⟨1, _⟩ => rfl
      | ⟨2, _⟩ => rfl
      | ⟨3, _⟩ => rfl
    · match a with
      | ⟨0, _⟩ => rfl
      | ⟨1, _⟩ => rfl
      | ⟨2, _⟩ => rfl
  rw [← e]
  rfl

/-- A group's scale: its greatest absolute value, or one where that is zero. -/
theorem v8_raw (V : Valuation τ sig (Elt F)) (p : Fin 2) (g : Fin 8) (d : Fin 18432) :
    res_main_v8 V (ix3 p g d) = Scalar.select (FloatOps.cmpf .oeq (res_main_v5 V (ix3 p g d)) (lit 0x00000000#32)) (lit 0x3F800000#32) (res_main_v5 V (ix3 p g d)) := by
  unfold res_main_v8
  rfl

/-- The returned scales are the groups' scales. -/
theorem v82_1_raw (V : Valuation τ sig (Elt F)) (p : Fin 2) (g : Fin 8) (d : Fin 18432) :
    res_main_v82_1 V (ix3 p g d) = Scalar.select (FloatOps.cmpf .oeq (res_main_v5 V (ix3 p g d)) (lit 0x00000000#32)) (lit 0x3F800000#32) (res_main_v5 V (ix3 p g d)) := by
  unfold res_main_v82_1 res_main_v8
  rfl

/-- The lowest bit of an even row's code, as a test. -/
theorem v95_at (V : Valuation τ sig (Elt F)) (p : Fin 2) (i : Fin 256) (d : Fin 18432) :
   res_main_v95 V (ix3 p i d) = bitOf (res_main_v85 V (ix3 p i d)) 0#32 := rfl
/-- The second bit of an even row's code, as a test. -/
theorem v101_at (V : Valuation τ sig (Elt F)) (p : Fin 2) (i : Fin 256) (d : Fin 18432) :
   res_main_v101 V (ix3 p i d) = bitOf (res_main_v85 V (ix3 p i d)) 1#32 := rfl
/-- The third bit of an even row's code, as a test. -/
theorem v107_at (V : Valuation τ sig (Elt F)) (p : Fin 2) (i : Fin 256) (d : Fin 18432) :
   res_main_v107 V (ix3 p i d) = bitOf (res_main_v85 V (ix3 p i d)) 2#32 := rfl
/-- The lowest bit of an odd row's code, as a test. -/
theorem v141_at (V : Valuation τ sig (Elt F)) (p : Fin 2) (i : Fin 256) (d : Fin 18432) :
   res_main_v141 V (ix3 p i d) = bitOf (res_main_v88 V (ix3 p i d)) 0#32 := rfl
/-- The second bit of an odd row's code, as a test. -/
theorem v147_at (V : Valuation τ sig (Elt F)) (p : Fin 2) (i : Fin 256) (d : Fin 18432) :
   res_main_v147 V (ix3 p i d) = bitOf (res_main_v88 V (ix3 p i d)) 1#32 := rfl
/-- The third bit of an odd row's code, as a test. -/
theorem v153_at (V : Valuation τ sig (Elt F)) (p : Fin 2) (i : Fin 256) (d : Fin 18432) :
   res_main_v153 V (ix3 p i d) = bitOf (res_main_v88 V (ix3 p i d)) 2#32 := rfl
/-- An even row's code, widened from its byte. -/
theorem v85_at (V : Valuation τ sig (Elt F)) (p : Fin 2) (i : Fin 256) (d : Fin 18432) :
   res_main_v85 V (ix3 p i d) = IntOp.andi ((res_main_v82_0 V (ix3 p i d) : BitVec 8).setWidth 32) 15#32 := rfl
/-- An odd row's code, widened from its byte. -/
theorem v88_at (V : Valuation τ sig (Elt F)) (p : Fin 2) (i : Fin 256) (d : Fin 18432) :
   res_main_v88 V (ix3 p i d) = IntOp.shrsi .host ((res_main_v82_0 V (ix3 p i d) : BitVec 8).setWidth 32) 4#32 := rfl

/-- The table values times the broadcast scales, read at an element. -/
theorem unscale_at (S : FVec F S2x256x18432 .f32) (Q : FVec F S2x8x18432 .f32) (p : Fin 2) (i : Fin 256) (d : Fin 18432) :
    shapeCast S2x256x18432 (mulf (shapeCast S2x8x32x18432 S shapeCasts_S2x256x18432_S2x8x32x18432)
      (broadcastInDim S2x8x32x18432 ![0, 1, 2, 3] bcast_S2x8x1x18432_S2x8x32x18432_0_1_2_3
        (broadcastInDim S2x8x1x18432 ![0, 1, 3] bcast_S2x8x18432_S2x8x1x18432_0_1_3 Q))) shapeCasts_S2x8x32x18432_S2x256x18432 (ix3 p i d)
      = FloatOps.mulf (S (ix3 p i d)) (Q (ix3 p (⟨i.val / 32, by omega⟩ : Fin 8) d)) := by
  refine (shapeCast_apply _ _ (ix3 p i d) (ix4 p (⟨i.val / 32, by omega⟩ : Fin 8) (⟨i.val % 32, by omega⟩ : Fin 32) d) ?_).trans ?_
  · rw [Shape.rowMajor_val_four, Shape.rowMajor_val_three]
    show ((p.val * 8 + i.val / 32) * 32 + i.val % 32) * 18432 + d.val = (p.val * 256 + i.val) * 18432 + d.val
    omega
  · refine congrArg₂ FloatOps.mulf (shapeCast_apply _ _ _ (ix3 p i d) ?_) ?_
    · rw [Shape.rowMajor_val_four, Shape.rowMajor_val_three]
      show (p.val * 256 + i.val) * 18432 + d.val = ((p.val * 8 + i.val / 32) * 32 + i.val % 32) * 18432 + d.val
      omega
    · refine (broadcastInDim_apply _ _ _ _ (ix4 p (⟨i.val / 32, by omega⟩ : Fin 8) (0 : Fin 1) d) fun a => ?_).trans
        (broadcastInDim_apply _ _ _ _ (ix3 p (⟨i.val / 32, by omega⟩ : Fin 8) d) fun a => ?_)
      · match a with
        | ⟨0, _⟩ => rfl
        | ⟨1, _⟩ => rfl
        | ⟨2, _⟩ => rfl
        | ⟨3, _⟩ => rfl
      · match a with
        | ⟨0, _⟩ => rfl
        | ⟨1, _⟩ => rfl
        | ⟨2, _⟩ => rfl

/-- What is left of an even row: the weight less the decoded code times the scale. -/
theorem v134_gen (V : Valuation τ sig (Elt F)) (p : Fin 2) (i : Fin 256) (d : Fin 18432) :
    res_main_v134 V (ix3 p i d) = FloatOps.subf (F := F) (φ := .f32) (res_main_v0 V (ix3 p (⟨2 * i.val, by omega⟩ : Fin 512) d))
      (FloatOps.mulf (F := F) (φ := .f32) (tableOf (bitOf (res_main_v85 V (ix3 p i d)) 3#32) (res_main_v107 V (ix3 p i d)) (res_main_v101 V (ix3 p i d)) (res_main_v95 V (ix3 p i d)))
        (res_main_v82_1 V (ix3 p (⟨i.val / 32, by omega⟩ : Fin 8) d))) := by
  have e : Host.slice S2x256x18432 ![0, 0, 0] ![1, 2, 1] (res_main_v0 V) slicesBy_S2x512x18432_S2x256x18432_0s1_0s2_0s1 (ix3 p i d)
      = res_main_v0 V (ix3 p (⟨2 * i.val, by omega⟩ : Fin 512) d) := by
    unfold Host.slice
    refine congrArg (res_main_v0 V) (funext fun a => Fin.ext ?_)
    match a with
    | ⟨0, _⟩ => show 0 + 1 * p.val = p.val; omega
    | ⟨1, _⟩ => show 0 + 2 * i.val = 2 * i.val; omega
    | ⟨2, _⟩ => show 0 + 1 * d.val = d.val; omega
  unfold res_main_v134
  exact congrArg₂ FloatOps.subf e (unscale_at _ _ p i d)

/-- What is left of an odd row: the weight less the decoded code times the scale. -/
theorem v180_gen (V : Valuation τ sig (Elt F)) (p : Fin 2) (i : Fin 256) (d : Fin 18432) :
    res_main_v180 V (ix3 p i d) = FloatOps.subf (F := F) (φ := .f32) (res_main_v0 V (ix3 p (⟨2 * i.val + 1, by omega⟩ : Fin 512) d))
      (FloatOps.mulf (F := F) (φ := .f32) (tableOf (bitOf (res_main_v88 V (ix3 p i d)) 3#32) (res_main_v153 V (ix3 p i d)) (res_main_v147 V (ix3 p i d)) (res_main_v141 V (ix3 p i d)))
        (res_main_v82_1 V (ix3 p (⟨i.val / 32, by omega⟩ : Fin 8) d))) := by
  have e : Host.slice S2x256x18432 ![0, 1, 0] ![1, 2, 1] (res_main_v0 V) slicesBy_S2x512x18432_S2x256x18432_0s1_1s2_0s1 (ix3 p i d)
      = res_main_v0 V (ix3 p (⟨2 * i.val + 1, by omega⟩ : Fin 512) d) := by
    unfold Host.slice
    refine congrArg (res_main_v0 V) (funext fun a => Fin.ext ?_)
    match a with
    | ⟨0, _⟩ => show 0 + 1 * p.val = p.val; omega
    | ⟨1, _⟩ => show 1 + 2 * i.val = 2 * i.val + 1; omega
    | ⟨2, _⟩ => show 0 + 1 * d.val = d.val; omega
  unfold res_main_v180
  exact congrArg₂ FloatOps.subf e (unscale_at _ _ p i d)

end

/-! ## The arguments -/

/-- The weights. -/
abbrev argW (V : Valuation τ sig (Elt Ideal)) : Fin 2 → Fin 512 → Fin 18432 → EReal := fun p s d => V (Proc.tc.devRef main_arg0) (ix3 p s d)
/-- The left factor. -/
abbrev argA (V : Valuation τ sig (Elt Ideal)) : Fin 2 → Fin 512 → Fin 640 → EReal := fun p s k => V (Proc.tc.devRef main_arg1) (ix3 p s k)
/-- The right factor. -/
abbrev argB (V : Valuation τ sig (Elt Ideal)) : Fin 2 → Fin 18432 → Fin 640 → EReal := fun p d k => V (Proc.tc.devRef main_arg2) (ix3 p d k)

/-! ## The scaled elements -/

/-- The weights less the product of the factors, by row groups. -/
theorem v3_at (V : Valuation τ sig (Elt Ideal)) (p : Fin 2) (g : Fin 8) (i : Fin 64) (d : Fin 18432) :
    res_main_v3 V (ix4 p g i d) = diff (argW V) (argA V) (argB V) p (rowOf g i) d := by
  unfold res_main_v3
  refine (shapeCast_apply _ shapeCasts_S2x512x18432_S2x8x64x18432 (ix4 p g i d) (ix3 p (rowOf g i) d) ?_).trans ?_
  · rw [Shape.rowMajor_val_three, Shape.rowMajor_val_four]
    show (p.val * 512 + (64 * g.val + i.val)) * 18432 + d.val = ((p.val * 8 + g.val) * 64 + i.val) * 18432 + d.val
    omega
  · pointwise [res_main_v0]
    rfl

/-- A group's greatest absolute value. -/
theorem v5_at (V : Valuation τ sig (Elt Ideal)) (p : Fin 2) (g : Fin 8) (d : Fin 18432) :
    res_main_v5 V (ix3 p g d) = colSup fun i => diff (argW V) (argA V) (argB V) p (rowOf g i) d := by
  pointwise [res_main_v5]
  refine (Shape.ReducesTo.fold_fiber_r4_a2 _ _ (max : EReal → EReal → EReal) _ _).trans ?_
  have h : ∀ i : Fin 64, (FloatOps.absf (res_main_v3 V (ix4 p g i d)) : EReal)
      = max (diff (argW V) (argA V) (argB V) p (rowOf g i) d) (-(diff (argW V) (argA V) (argB V) p (rowOf g i) d)) := fun i => by
    rw [v3_at]; rfl
  exact congrArg (fun f => Finset.fold max (Ideal.ofBits .f32 0xFF800000#32) f Finset.univ) (funext h)

/-- The printed choice of a scale. -/
theorem select_scale (x : EReal) : Scalar.select (FloatOps.cmpf (F := Ideal) (φ := .f32) .oeq x (lit 0x00000000#32)) (lit (F := Ideal) 0x3F800000#32) x
    = if x = 0 then 1 else x := by
  pointwise []

/-- A group's scale. -/
theorem v8_at (V : Valuation τ sig (Elt Ideal)) (p : Fin 2) (g : Fin 8) (d : Fin 18432) :
    res_main_v8 V (ix3 p g d) = sc (argW V) (argA V) (argB V) p g d := by
  rw [v8_raw, v5_at]
  exact select_scale _

/-- The reference's scales. -/
theorem scales_at (V : Valuation τ sig (Elt Ideal)) (p : Fin 2) (g : Fin 8) (d : Fin 18432) :
    res_main_v82_1 V (ix3 p g d) = sc (argW V) (argA V) (argB V) p g d := by
  rw [v82_1_raw, v5_at]
  exact select_scale _

/-- A scaled number, by row groups. -/
theorem v11_scl (V : Valuation τ sig (Elt Ideal)) (p : Fin 2) (g : Fin 8) (i : Fin 64) (d : Fin 18432) :
    res_main_v11 V (ix4 p g i d) = Ideal.div (diff (argW V) (argA V) (argB V) p (rowOf g i) d) (sc (argW V) (argA V) (argB V) p g d) := by
  rw [v11_at, v3_at, v8_at]
  rfl

/-- A row's scaled number is that of its place in its group. -/
theorem scl_eq (V : Valuation τ sig (Elt Ideal)) (p : Fin 2) (s : Fin 512) (d : Fin 18432) (g : Fin 8) (i : Fin 64) (h : s = rowOf g i) :
    res_main_v11 V (ix4 p g i d) = scl (argW V) (argA V) (argB V) p s d := by
  have hg : groupOf s = g := by subst h; exact Fin.ext (show (64 * g.val + i.val) / 64 = g.val by omega)
  rw [v11_scl, scl, hg, h]

/-- A row's code, as the search over the midpoints finds it. -/
theorem v73_code (V : Valuation τ sig (Elt Ideal)) (p : Fin 2) (i : Fin 256) (j : Fin 2) (d : Fin 18432) (s : Fin 512) (h : s.val = 2 * i.val + j.val) :
    res_main_v73 V (ix4 p i j d) = code (F := Ideal) (scl (argW V) (argA V) (argB V) p s d) := by
  rw [v73_at, scl_eq V p s d _ _ (Fin.ext (show s.val = 64 * (i.val / 32) + (2 * (i.val % 32) + j.val) by omega))]
  exact (code_eq_count _).symm

/-- The reference's bytes. -/
theorem bytes_at (V : Valuation τ sig (Elt Ideal)) (p : Fin 2) (i : Fin 256) (d : Fin 18432) :
    res_main_v82_0 V (ix3 p i d) = byt (argW V) (argA V) (argB V) p i d := by
  rw [v82_at, v73_code V p i 0 d ⟨2 * i.val, by omega⟩ rfl, v73_code V p i 1 d ⟨2 * i.val + 1, by omega⟩ rfl]
  rfl

/-! ## What the coded weights leave -/

/-- What is left of an even row, in terms of its code. -/
theorem v134_raw (V : Valuation τ sig (Elt Ideal)) (p : Fin 2) (i : Fin 256) (d : Fin 18432) :
    res_main_v134 V (ix3 p i d) = argW V p (⟨2 * i.val, by omega⟩ : Fin 512) d
     - tableOf (F := Ideal) (bitOf (res_main_v85 V (ix3 p i d)) 3#32) (res_main_v107 V (ix3 p i d)) (res_main_v101 V (ix3 p i d)) (res_main_v95 V (ix3 p i d))
       * sc (argW V) (argA V) (argB V) p (⟨i.val / 32, by omega⟩ : Fin 8) d := by
  rw [v134_gen, scales_at]
  rfl

/-- What is left of an odd row, in terms of its code. -/
theorem v180_raw (V : Valuation τ sig (Elt Ideal)) (p : Fin 2) (i : Fin 256) (d : Fin 18432) :
    res_main_v180 V (ix3 p i d) = argW V p (⟨2 * i.val + 1, by omega⟩ : Fin 512) d
     - tableOf (F := Ideal) (bitOf (res_main_v88 V (ix3 p i d)) 3#32) (res_main_v153 V (ix3 p i d)) (res_main_v147 V (ix3 p i d)) (res_main_v141 V (ix3 p i d))
       * sc (argW V) (argA V) (argB V) p (⟨i.val / 32, by omega⟩ : Fin 8) d := by
  rw [v180_gen, scales_at]
  rfl

/-- What is left of an even row, in plain mathematics. -/
theorem v134_at (V : Valuation τ sig (Elt Ideal)) (p : Fin 2) (i : Fin 256) (d : Fin 18432) :
    res_main_v134 V (ix3 p i d) = rem (argW V) (argA V) (argB V) p (⟨2 * i.val, by omega⟩ : Fin 512) d := by
  have hg : groupOf (⟨2 * i.val, by omega⟩ : Fin 512) = (⟨i.val / 32, by omega⟩ : Fin 8) := Fin.ext (show 2 * i.val / 64 = i.val / 32 by omega)
  obtain ⟨h3, h2, h1, h0⟩ := low_bits (bit0 (F := Ideal) (scl (argW V) (argA V) (argB V) p ⟨2 * i.val, by omega⟩ d)) (bit1 (F := Ideal) (scl (argW V) (argA V) (argB V) p ⟨2 * i.val, by omega⟩ d))
    (bit2 (F := Ideal) (scl (argW V) (argA V) (argB V) p ⟨2 * i.val, by omega⟩ d)) (bit3 (F := Ideal) (scl (argW V) (argA V) (argB V) p ⟨2 * i.val, by omega⟩ d))
    (bit0 (F := Ideal) (scl (argW V) (argA V) (argB V) p ⟨2 * i.val + 1, by omega⟩ d)) (bit1 (F := Ideal) (scl (argW V) (argA V) (argB V) p ⟨2 * i.val + 1, by omega⟩ d))
    (bit2 (F := Ideal) (scl (argW V) (argA V) (argB V) p ⟨2 * i.val + 1, by omega⟩ d)) (bit3 (F := Ideal) (scl (argW V) (argA V) (argB V) p ⟨2 * i.val + 1, by omega⟩ d))
  rw [v134_raw, v107_at, v101_at, v95_at, v85_at, bytes_at, byt, code, code, h3, h2, h1, h0, rem, hg]
  rfl

/-- What is left of an odd row, in plain mathematics. -/
theorem v180_at (V : Valuation τ sig (Elt Ideal)) (p : Fin 2) (i : Fin 256) (d : Fin 18432) :
    res_main_v180 V (ix3 p i d) = rem (argW V) (argA V) (argB V) p (⟨2 * i.val + 1, by omega⟩ : Fin 512) d := by
  have hg : groupOf (⟨2 * i.val + 1, by omega⟩ : Fin 512) = (⟨i.val / 32, by omega⟩ : Fin 8) := Fin.ext (show (2 * i.val + 1) / 64 = i.val / 32 by omega)
  obtain ⟨h3, h2, h1, h0⟩ := high_bits (bit0 (F := Ideal) (scl (argW V) (argA V) (argB V) p ⟨2 * i.val, by omega⟩ d)) (bit1 (F := Ideal) (scl (argW V) (argA V) (argB V) p ⟨2 * i.val, by omega⟩ d))
    (bit2 (F := Ideal) (scl (argW V) (argA V) (argB V) p ⟨2 * i.val, by omega⟩ d)) (bit3 (F := Ideal) (scl (argW V) (argA V) (argB V) p ⟨2 * i.val, by omega⟩ d))
    (bit0 (F := Ideal) (scl (argW V) (argA V) (argB V) p ⟨2 * i.val + 1, by omega⟩ d)) (bit1 (F := Ideal) (scl (argW V) (argA V) (argB V) p ⟨2 * i.val + 1, by omega⟩ d))
    (bit2 (F := Ideal) (scl (argW V) (argA V) (argB V) p ⟨2 * i.val + 1, by omega⟩ d)) (bit3 (F := Ideal) (scl (argW V) (argA V) (argB V) p ⟨2 * i.val + 1, by omega⟩ d))
  rw [v180_raw, v153_at, v147_at, v141_at, v88_at, bytes_at, byt, code, code, h3, h2, h1, h0, rem, hg]
  rfl

/-! ## The new factor and what it leaves -/

/-- The new left factor's even rows. -/
theorem v181_at (V : Valuation τ sig (Elt Ideal)) (p : Fin 2) (i : Fin 256) (k : Fin 640) :
    res_main_v181 V (ix3 p i k) = fac (argW V) (argA V) (argB V) p (⟨2 * i.val, by omega⟩ : Fin 512) k := by
  pointwise [res_main_v181]
  exact Finset.sum_congr (M := EReal) rfl fun d _ => congrArg (fun x : EReal => x * argB V p d k) (v134_at V p i d)

/-- The new left factor's odd rows. -/
theorem v182_at (V : Valuation τ sig (Elt Ideal)) (p : Fin 2) (i : Fin 256) (k : Fin 640) :
    res_main_v182 V (ix3 p i k) = fac (argW V) (argA V) (argB V) p (⟨2 * i.val + 1, by omega⟩ : Fin 512) k := by
  pointwise [res_main_v182]
  exact Finset.sum_congr (M := EReal) rfl fun d _ => congrArg (fun x : EReal => x * argB V p d k) (v180_at V p i d)

/-- The residual's even rows. -/
theorem v184_at (V : Valuation τ sig (Elt Ideal)) (p : Fin 2) (i : Fin 256) (d : Fin 18432) :
    res_main_v184 V (ix3 p i d) = rest (argW V) (argA V) (argB V) p (⟨2 * i.val, by omega⟩ : Fin 512) d := by
  pointwise [res_main_v184]
  have h : ∑ k : Fin 640, (show EReal from res_main_v181 V (ix3 p i k)) * argB V p d k = _ :=
    Finset.sum_congr (M := EReal) rfl fun k _ => congrArg (fun x : EReal => x * argB V p d k) (v181_at V p i k)
  rw [v134_at, h]
  rfl

/-- The residual's odd rows. -/
theorem v186_at (V : Valuation τ sig (Elt Ideal)) (p : Fin 2) (i : Fin 256) (d : Fin 18432) :
    res_main_v186 V (ix3 p i d) = rest (argW V) (argA V) (argB V) p (⟨2 * i.val + 1, by omega⟩ : Fin 512) d := by
  pointwise [res_main_v186]
  have h : ∑ k : Fin 640, (show EReal from res_main_v182 V (ix3 p i k)) * argB V p d k = _ :=
    Finset.sum_congr (M := EReal) rfl fun k _ => congrArg (fun x : EReal => x * argB V p d k) (v182_at V p i k)
  rw [v180_at, h]
  rfl

/-! ## Rows put back in order -/

/-- Even and odd rows stacked together, for arrays with columns. -/
theorem stack3 (X Y : FVec Ideal S2x256x640 .f32) (p : Fin 2) (s : Fin 512) (k : Fin 640) :
    shapeCast S2x512x640 (concatenate S2x256x2x640 2 [⟨S2x256x1x640, (broadcastInDim S2x256x1x640 ![0, 1, 3] bcast_S2x256x640_S2x256x1x640_0_1_3 X)⟩, ⟨S2x256x1x640, (broadcastInDim S2x256x1x640 ![0, 1, 3] bcast_S2x256x640_S2x256x1x640_0_1_3 Y)⟩] concatenates_S2x256x1x640_S2x256x1x640_S2x256x2x640_d2) shapeCasts_S2x256x2x640_S2x512x640 (ix3 p s k)
      = if s.val % 2 = 0 then X (ix3 p (⟨s.val / 2, by omega⟩ : Fin 256) k) else Y (ix3 p (⟨s.val / 2, by omega⟩ : Fin 256) k) := by
  pointwise []
  split
  · rename_i h
    exact (if_pos (by omega)).symm
  · rename_i h
    exact (if_neg (by omega)).symm

/-- Even and odd rows stacked together, for one number to a row. -/
theorem stack2 (X Y : FVec Ideal S2x256 .f32) (p : Fin 2) (s : Fin 512) :
    shapeCast S2x512x1 (concatenate S2x256x2 2 [⟨S2x256x1, (broadcastInDim S2x256x1 ![0, 1] bcast_S2x256_S2x256x1_0_1 X)⟩, ⟨S2x256x1, (broadcastInDim S2x256x1 ![0, 1] bcast_S2x256_S2x256x1_0_1 Y)⟩] concatenates_S2x256x1_S2x256x1_S2x256x2_d2) shapeCasts_S2x256x2_S2x512x1 (ix3 p s (0 : Fin 1))
      = if s.val % 2 = 0 then X (ix2 p (⟨s.val / 2, by omega⟩ : Fin 256)) else Y (ix2 p (⟨s.val / 2, by omega⟩ : Fin 256)) := by
  pointwise []
  split
  · rename_i h
    exact (if_pos (by omega)).symm
  · rename_i h
    exact (if_neg (by omega)).symm

/-- The sum of a row's squares. -/
theorem sumsq (X : FVec Ideal S2x256x18432 .f32) (p : Fin 2) (i : Fin 256) :
    Host.reduceAdd (mulf X X) (constant S_ .f32 0x00000000#32) reducesTo_S2x256x18432_S2x256_d2 h_S_ (ix2 p i) = ∑ d : Fin 18432, (X (ix3 p i d) : EReal) * X (ix3 p i d) := by
  pointwise []

/-- The reference's new factor. -/
theorem factor_at (V : Valuation τ sig (Elt Ideal)) (p : Fin 2) (s : Fin 512) (k : Fin 640) :
    shapeCast S2x512x640 (concatenate S2x256x2x640 2 [⟨S2x256x1x640, (broadcastInDim S2x256x1x640 ![0, 1, 3] bcast_S2x256x640_S2x256x1x640_0_1_3 (res_main_v181 V))⟩, ⟨S2x256x1x640, (broadcastInDim S2x256x1x640 ![0, 1, 3] bcast_S2x256x640_S2x256x1x640_0_1_3 (res_main_v182 V))⟩] concatenates_S2x256x1x640_S2x256x1x640_S2x256x2x640_d2) shapeCasts_S2x256x2x640_S2x512x640 (ix3 p s k)
      = fac (argW V) (argA V) (argB V) p s k := by
  refine (stack3 (res_main_v181 V) (res_main_v182 V) p s k).trans ?_
  by_cases h : s.val % 2 = 0
  · rw [if_pos h, v181_at]
    exact congrArg (fun s => fac (argW V) (argA V) (argB V) p s k) (Fin.ext (show 2 * (s.val / 2) = s.val by omega))
  · rw [if_neg h, v182_at]
    exact congrArg (fun s => fac (argW V) (argA V) (argB V) p s k) (Fin.ext (show 2 * (s.val / 2) + 1 = s.val by omega))

/-- The reference's squared lengths. -/
theorem norm_at (V : Valuation τ sig (Elt Ideal)) (p : Fin 2) (s : Fin 512) :
    shapeCast S2x512x1 (concatenate S2x256x2 2 [⟨S2x256x1, (broadcastInDim S2x256x1 ![0, 1] bcast_S2x256_S2x256x1_0_1 (Host.reduceAdd (mulf (res_main_v184 V) (res_main_v184 V)) (constant S_ .f32 0x00000000#32) reducesTo_S2x256x18432_S2x256_d2 h_S_))⟩, ⟨S2x256x1, (broadcastInDim S2x256x1 ![0, 1] bcast_S2x256_S2x256x1_0_1 (Host.reduceAdd (mulf (res_main_v186 V) (res_main_v186 V)) (constant S_ .f32 0x00000000#32) reducesTo_S2x256x18432_S2x256_d2 h_S_))⟩] concatenates_S2x256x1_S2x256x1_S2x256x2_d2) shapeCasts_S2x256x2_S2x512x1 (ix3 p s (0 : Fin 1))
      = nrm (argW V) (argA V) (argB V) p s := by
  refine (stack2 _ _ p s).trans ?_
  by_cases h : s.val % 2 = 0
  · rw [if_pos h]
    refine (sumsq _ p _).trans ?_
    have e : (⟨2 * (s.val / 2), by omega⟩ : Fin 512) = s := Fin.ext (show 2 * (s.val / 2) = s.val by omega)
    exact Finset.sum_congr rfl fun d _ => by
      have h' := v184_at V p (⟨s.val / 2, by omega⟩ : Fin 256) d
      rw [e] at h'
      exact congrArg (fun x : EReal => x * x) h'
  · rw [if_neg h]
    refine (sumsq _ p _).trans ?_
    have e : (⟨2 * (s.val / 2) + 1, by omega⟩ : Fin 512) = s := Fin.ext (show 2 * (s.val / 2) + 1 = s.val by omega)
    exact Finset.sum_congr rfl fun d _ => by
      have h' := v186_at V p (⟨s.val / 2, by omega⟩ : Fin 256) d
      rw [e] at h'
      exact congrArg (fun x : EReal => x * x) h'

end Cert.ReferenceIdeal.Results
-- ==== Proof.Finite.lean ====
/-
  The precondition, read: every element of the three arguments is finite.
-/
module

public import proofs.«01_k».proof.Defs
public import proofs.«01_k».proof.Proof.Spec
public import Idealize.ShloMosaic.Lib.ReduceAll

@[expose] public section

set_option maxRecDepth 16384

noncomputable section

namespace Cert.Finite

open Idealize.ShloMosaic Cert.Pre_finite Cert.Nf4

/-- The shape relations the precondition's operations take. -/
theorem facts : Cert.Pre_finite.Facts where
  bitsLt_bf16_f32 := by decide
  bcast_S_S2x512x18432 := by decide
  reducesTo_S2x512x18432_S_d0_1_2 := by decide
  h_S_ := by decide
  bcast_S_S2x512x640 := by decide
  reducesTo_S2x512x640_S_d0_1_2 := by decide
  bcast_S_S2x18432x640 := by decide
  reducesTo_S2x18432x640_S_d0_1_2 := by decide

/-- The bits of positive infinity read as the top element. -/
theorem ofBits_top : Ideal.ofBits .f32 0x7F800000#32 = (⊤ : EReal) := by
  simp [Ideal.ofBits, Ideal.ieee]

/-- A number whose magnitude is below infinity is finite. -/
theorem fin_of_lt (x : EReal) (h : FloatOps.cmpf (F := Ideal) (φ := .f32) .olt (max x (-x)) (Ideal.ofBits .f32 0x7F800000#32) = 1#1) : Fin' x := by
  rw [ofBits_top] at h
  have hlt : max x (-x) < ⊤ := by
    by_contra hn
    change BitVec.ofBool (decide (max x (-x) < ⊤)) = 1#1 at h
    simp [hn] at h
  refine Fin'.of_bounds ?_ (lt_of_le_of_lt (le_max_left _ _) hlt)
  rcases eq_or_ne x ⊥ with rfl | hx
  · exact absurd (lt_of_le_of_lt (le_max_right _ _) hlt) (by simp)
  · exact bot_lt_iff_ne_bot.2 hx

/-- A conjunction of bits is one exactly where both are. -/
theorem andi_one (a b : BitVec 1) : IntOp.andi a b = 1#1 ↔ a = 1#1 ∧ b = 1#1 := by revert a b; decide

instance : Subsingleton S_.Idx := ⟨fun x y => funext fun a => a.elim0⟩

/-- Where the precondition holds, every element of the three arguments is finite. -/
theorem all_fin [Cert.Pre_finite.Facts] (w : FVec Ideal S2x512x18432 .bf16) (a : FVec Ideal S2x512x640 .f32) (b : FVec Ideal S2x18432x640 .f32)
    (h : Cert.Pre_finite.fn (F := Ideal) w a b = fun _ => 1#1) :
    (∀ i, Fin' (w i)) ∧ (∀ i, Fin' (a i)) ∧ ∀ i, Fin' (b i) := by
  have h0 := congrFun h (fun x => x.elim0)
  simp only [Cert.Pre_finite.fn, andi, andi_one] at h0
  obtain ⟨⟨h1, h2⟩, h3⟩ := h0
  exact ⟨fun i => fin_of_lt (w i) (Host.reduce_andi_all _ _ _ _ _ h1 i), fun i => fin_of_lt (a i) (Host.reduce_andi_all _ _ _ _ _ h2 i),
    fun i => fin_of_lt (b i) (Host.reduce_andi_all _ _ _ _ _ h3 i)⟩

end Cert.Finite
-- ==== Proof.Match.lean ====
/-
  The two programs' results agree, array by array.
-/
module

public import proofs.«01_k».proof.Proof.Values
public import proofs.«01_k».proof.Proof.Results
public import proofs.«01_k».proof.Proof.Finite

@[expose] public section

set_option maxRecDepth 16384

noncomputable section

namespace Cert.Match

open Idealize.ShloMosaic Idealize.ShloMosaic.TcCoe Idealize.SL.Sem Idealize.ShloMosaic.StableHlo Cert.Nf4

/-- Arrays of rank three equal at every coordinate are equal. -/
theorem ext3 {α : Type} {n0 n1 n2 : ℕ} (x y : (⟨3, ![n0, n1, n2]⟩ : Shape).Idx → α)
    (h : ∀ (i : Fin n0) (j : Fin n1) (k : Fin n2), x (ix3 i j k) = y (ix3 i j k)) : x = y := by
  funext i
  have e : i = ix3 (i 0) (i 1) (i 2) := by
    funext a
    match a with
    | ⟨0, _⟩ => rfl
    | ⟨1, _⟩ => rfl
    | ⟨2, _⟩ => rfl
  rw [e]
  exact h _ _ _

variable (m : (ℓ : Loc Cert.KernelIdeal.nD Cert.KernelIdeal.τ Cert.KernelIdeal.sig) → Buf (Elt Ideal) ℓ) (c : Dev Cert.KernelIdeal.nD)

/-- Under the precondition the arguments' elements are finite. -/
theorem fin_args [Cert.Pre_finite.Facts] (h : Cert.Pre_KernelIdeal_finite m) :
    (∀ p s d, Fin' (Cert.KernelIdeal.Sweep.argW m c p s d)) ∧ (∀ p s k, Fin' (Cert.KernelIdeal.Sweep.argA m c p s k))
      ∧ ∀ p d k, Fin' (Cert.KernelIdeal.Sweep.argB m c p d k) := by
  have h' := Cert.Finite.all_fin _ _ _ (h c)
  exact ⟨fun _ _ _ => h'.1 _, fun _ _ _ => h'.2.1 _, fun _ _ _ => h'.2.2 _⟩

/-! ## The arguments agree -/

variable (m' : (ℓ : Loc Cert.ReferenceIdeal.nD Cert.ReferenceIdeal.τ Cert.ReferenceIdeal.sig) → Buf (Elt Ideal) ℓ)

/-- Both programs' memories hold the same arguments. -/
abbrev Agree : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)

/-- Both programs have the same weights. -/
theorem argW_eq (h : Agree m c m') : Cert.ReferenceIdeal.Results.argW (launchContents m' c) = Cert.KernelIdeal.Sweep.argW m c :=
  funext fun p => funext fun s => funext fun d => congrFun h.1 (ix3 p s d)

/-- Both programs have the same left factor. -/
theorem argA_eq (h : Agree m c m') : Cert.ReferenceIdeal.Results.argA (launchContents m' c) = Cert.KernelIdeal.Sweep.argA m c :=
  funext fun p => funext fun s => funext fun k => congrFun h.2.1 (ix3 p s k)

/-- Both programs have the same right factor. -/
theorem argB_eq (h : Agree m c m') : Cert.ReferenceIdeal.Results.argB (launchContents m' c) = Cert.KernelIdeal.Sweep.argB m c :=
  funext fun p => funext fun d => funext fun k => congrFun h.2.2 (ix3 p d k)

/-! ## The results agree -/

section
open Cert.ReferenceIdeal Cert.ReferenceIdeal.Gen Cert.ReferenceIdeal.Value

variable [Cert.Pre_finite.Facts] (hpre : Cert.Pre_KernelIdeal_finite m) (h : Agree m c m')
include hpre h

/-- The packed codes are equal. -/
theorem bytes_eq : res_main_v82_0 (launchContents m' c) = Cert.KernelIdeal.Value.G5 m c := by
  obtain ⟨hw, ha, hb⟩ := fin_args m c hpre
  refine ext3 _ _ fun p i d => (Results.bytes_at (launchContents m' c) p i d).trans ?_
  rw [argW_eq m c m' h, argA_eq m c m' h, argB_eq m c m' h]
  exact (Cert.KernelIdeal.Sweep.bytes_val m c hw ha hb p i d).symm

/-- The scales are equal. -/
theorem scales_eq : res_main_v82_1 (launchContents m' c) = Cert.KernelIdeal.Value.G6 m c := by
  obtain ⟨hw, ha, hb⟩ := fin_args m c hpre
  refine ext3 _ _ fun p g d => (Results.scales_at (launchContents m' c) p g d).trans ?_
  rw [argW_eq m c m' h, argA_eq m c m' h, argB_eq m c m' h]
  exact (Cert.KernelIdeal.Sweep.scales_val m c hw ha hb p g d).symm

/-- The new left factors are equal. -/
theorem factor_eq : shapeCast S2x512x640 (concatenate S2x256x2x640 2 [⟨S2x256x1x640, (broadcastInDim S2x256x1x640 ![0, 1, 3] bcast_S2x256x640_S2x256x1x640_0_1_3 (res_main_v181 (launchContents m' c)))⟩, ⟨S2x256x1x640, (broadcastInDim S2x256x1x640 ![0, 1, 3] bcast_S2x256x640_S2x256x1x640_0_1_3 (res_main_v182 (launchContents m' c)))⟩] concatenates_S2x256x1x640_S2x256x1x640_S2x256x2x640_d2) shapeCasts_S2x256x2x640_S2x512x640
    = Cert.KernelIdeal.Value.G3 m c := by
  obtain ⟨hw, ha, hb⟩ := fin_args m c hpre
  refine ext3 _ _ fun p s k => (Results.factor_at (launchContents m' c) p s k).trans ?_
  rw [argW_eq m c m' h, argA_eq m c m' h, argB_eq m c m' h]
  exact (Cert.KernelIdeal.Sweep.factor_val m c hw ha hb p s k).symm

/-- The squared lengths of the residual's rows are equal. -/
theorem norm_eq : shapeCast S2x512x1 (concatenate S2x256x2 2 [⟨S2x256x1, (broadcastInDim S2x256x1 ![0, 1] bcast_S2x256_S2x256x1_0_1 (Host.reduceAdd (mulf (res_main_v184 (launchContents m' c)) (res_main_v184 (launchContents m' c))) (constant S_ .f32 0x00000000#32) reducesTo_S2x256x18432_S2x256_d2 h_S_))⟩, ⟨S2x256x1, (broadcastInDim S2x256x1 ![0, 1] bcast_S2x256_S2x256x1_0_1 (Host.reduceAdd (mulf (res_main_v186 (launchContents m' c)) (res_main_v186 (launchContents m' c))) (constant S_ .f32 0x00000000#32) reducesTo_S2x256x18432_S2x256_d2 h_S_))⟩] concatenates_S2x256x1_S2x256x1_S2x256x2_d2) shapeCasts_S2x256x2_S2x512x1
    = Cert.KernelIdeal.Value.G4 m c := by
  obtain ⟨hw, ha, hb⟩ := fin_args m c hpre
  refine ext3 _ _ fun p s z => ?_
  obtain rfl : z = (0 : Fin 1) := Subsingleton.elim _ _
  refine (Results.norm_at (launchContents m' c) p s).trans ?_
  rw [argW_eq m c m' h, argA_eq m c m' h, argB_eq m c m' h]
  exact (Cert.KernelIdeal.Sweep.norm_val m c hw ha hb p s).symm

end

end Cert.Match
-- ==== Proof.lean ====
/-
  The certificate: every program ends without fault and leaves its arguments, the ideal kernel is the kernel, and on
  finite arguments kernel and reference return equal results over the extended reals.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import Idealize.ShloMosaic.Adequacy
public import Idealize.ShloMosaic.Init
public import Idealize.ShloMosaic.Lib.Claim
public import proofs.«01_k».proof.Proof.Match

@[expose] public section

noncomputable section

namespace Cert.Proof

open Idealize.ShloMosaic Idealize.SL.Sem

/-- On finite arguments the two programs, over the extended reals, end with equal results. -/
theorem algebraic [Cert.Pre_finite.Facts] : Cert.algebraic_KernelIdeal_ReferenceIdeal_pre_finite := by
  pair_intro
  · run_from Cert.KernelIdeal.Value.run m g
  · refine (θ_run _ _ _).mono (fun r h c => ?_) (Cert.ReferenceIdeal.Value.run m' g')
    have e := h c
    exact ⟨e.1.trans (Cert.Match.factor_eq m c m' hpre (hagree c)), e.2.1.trans (Cert.Match.norm_eq m c m' hpre (hagree c)),
      e.2.2.1.trans (Cert.Match.bytes_eq m c m' hpre (hagree c)), e.2.2.2.1.trans (Cert.Match.scales_eq m c m' hpre (hagree c)),
      e.2.2.2.2.1, e.2.2.2.2.2.1, e.2.2.2.2.2.2⟩

/-- The reference program leaves its arguments, and, having no semaphores, ends with every counter at zero. -/
theorem frame_reference : Cert.quiescent_ReferenceIdeal := fun m g _ =>
  (θ_run _ _ _).mono (fun r h => ⟨fun c => (h c).2.2.2.2, sem_eq_zero_of_no_sems (by decide) r.2⟩) (Cert.ReferenceIdeal.Value.run m g)

/-- Everything that is claimed. -/
theorem claim : Cert.Claim :=
  ⟨Cert.Kernel.Gen.facts, Cert.KernelIdeal.Gen.facts, Cert.ReferenceIdeal.Gen.facts, Cert.Finite.facts,
    fun m g _ => Cert.Kernel.Gen.frame m g, fun m g _ => Cert.KernelIdeal.Gen.frame m g, fun m g _ => Cert.KernelIdeal.Gen.frame m g,
    frame_reference, fun m g _ => frame_reference m g trivial, trivial, @algebraic Cert.Finite.facts⟩

end Cert.Proof

end
